-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x1024x128 : Shape := ⟨3, ![2, 1024, 128]⟩
abbrev S4x1024x128 : Shape := ⟨3, ![4, 1024, 128]⟩
abbrev S1024x256 : Shape := ⟨2, ![1024, 256]⟩
abbrev S6x1024x128 : Shape := ⟨3, ![6, 1024, 128]⟩
abbrev S24 : Shape := ⟨1, ![24]⟩
abbrev S_ : Shape := ⟨0, ![]⟩
abbrev S512x512 : Shape := ⟨2, ![512, 512]⟩
abbrev S1 : Shape := ⟨1, ![1]⟩
abbrev S1x512x128 : Shape := ⟨3, ![1, 512, 128]⟩
abbrev S512x128 : Shape := ⟨2, ![512, 128]⟩

abbrev nBuf : Space → Nat
  | .hbm => 3
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S1024x1024, .bf16⟩
  | .local _ .vmem, ⟨4, _⟩ => ⟨S512x1024, .bf16⟩
  | .local _ .vmem, ⟨5, _⟩ => ⟨S2x1024x128, .bf16⟩
  | .local _ .vmem, ⟨6, _⟩ => ⟨S4x1024x128, .bf16⟩
  | .local _ .vmem, ⟨7, _⟩ => ⟨S2x1024x128, .bf16⟩
  | .local _ .vmem, ⟨8, _⟩ => ⟨S1024x256, .bf16⟩
  | .local _ .vmem, ⟨9, _⟩ => ⟨S6x1024x128, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c0_i32_28 : BitVec 32 := 0#32
  let c3_i32_15 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v25 : BitVec 32 := Scalar.subi c3_i32_15 v3
  let c256_i32 : BitVec 32 := 256#32
  let v26 : BitVec 32 := Scalar.muli v25 c256_i32
  ![0, v26.toNat]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_24 : BitVec 32 := 1#32
  let v33 : BitVec 32 := Scalar.muli v3 c1_i32_24
  let v34 : BitVec 32 := Scalar.addi c0_i32_25 v33
  v34.toNat
def k0_off2 (d0 : Dev nD) : Fin 2 → Nat :=
  let c0_i32_35 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_16 : BitVec 32 := 1#32
  let v27 : BitVec 32 := Scalar.xori v4 c1_i32_16
  let c256_i32_17 : BitVec 32 := 256#32
  let v28 : BitVec 32 := Scalar.muli v27 c256_i32_17
  let c128_i32 : BitVec 32 := 128#32
  let v29 : BitVec 32 := Scalar.addi v28 c128_i32
  ![0, v29.toNat]
def k0_dev4 (d0 : Dev nD) : Nat :=
  let c0_i32_32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_31 : BitVec 32 := 1#32
  let v42 : BitVec 32 := Scalar.muli v4 c1_i32_31
  let v43 : BitVec 32 := Scalar.addi c0_i32_32 v42
  v43.toNat
def k0_off3 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_18 : BitVec 32 := 256#32
  let v30 : BitVec 32 := Scalar.muli v3 c256_i32_18
  ![0, v30.toNat]
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_39 : BitVec 32 := 1#32
  let v51 : BitVec 32 := Scalar.muli v3 c1_i32_39
  let v52 : BitVec 32 := Scalar.addi c0_i32_40 v51
  v52.toNat
def k0_off4 (d0 : Dev nD) : Fin 2 → Nat :=
  let c0_i32_51 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_19 : BitVec 32 := 256#32
  let v31 : BitVec 32 := Scalar.muli v4 c256_i32_19
  let c128_i32_20 : BitVec 32 := 128#32
  let v32 : BitVec 32 := Scalar.addi v31 c128_i32_20
  ![0, v32.toNat]
def k0_dev6 (d0 : Dev nD) : Nat :=
  let c0_i32_48 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_47 : BitVec 32 := 1#32
  let v60 : BitVec 32 := Scalar.muli v4 c1_i32_47
  let v61 : BitVec 32 := Scalar.addi c0_i32_48 v60
  v61.toNat
def k0_off5 (d0 : Dev nD) : Fin 2 → Nat :=
  let c512_i32_72 : BitVec 32 := 512#32
  let c3_i32_58 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v78 : BitVec 32 := Scalar.subi c3_i32_58 v3
  let c256_i32_59 : BitVec 32 := 256#32
  let v79 : BitVec 32 := Scalar.muli v78 c256_i32_59
  ![512, v79.toNat]
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_69 : BitVec 32 := 1#32
  let v86 : BitVec 32 := Scalar.muli v3 c1_i32_69
  let v87 : BitVec 32 := Scalar.addi c0_i32_70 v86
  v87.toNat
def k0_off6 (d0 : Dev nD) : Fin 2 → Nat :=
  let c512_i32_79 : BitVec 32 := 512#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_60 : BitVec 32 := 1#32
  let v80 : BitVec 32 := Scalar.xori v4 c1_i32_60
  let c256_i32_61 : BitVec 32 := 256#32
  let v81 : BitVec 32 := Scalar.muli v80 c256_i32_61
  let c128_i32_62 : BitVec 32 := 128#32
  let v82 : BitVec 32 := Scalar.addi v81 c128_i32_62
  ![512, v82.toNat]
def k0_dev8 (d0 : Dev nD) : Nat :=
  let c0_i32_76 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_75 : BitVec 32 := 1#32
  let v95 : BitVec 32 := Scalar.muli v4 c1_i32_75
  let v96 : BitVec 32 := Scalar.addi c0_i32_76 v95
  v96.toNat
def k0_off7 (d0 : Dev nD) : Fin 2 → Nat :=
  let c512_i32_87 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_63 : BitVec 32 := 256#32
  let v83 : BitVec 32 := Scalar.muli v3 c256_i32_63
  ![512, v83.toNat]
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_83 : BitVec 32 := 1#32
  let v104 : BitVec 32 := Scalar.muli v3 c1_i32_83
  let v105 : BitVec 32 := Scalar.addi c0_i32_84 v104
  v105.toNat
def k0_off8 (d0 : Dev nD) : Fin 2 → Nat :=
  let c512_i32_94 : BitVec 32 := 512#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_64 : BitVec 32 := 256#32
  let v84 : BitVec 32 := Scalar.muli v4 c256_i32_64
  let c128_i32_65 : BitVec 32 := 128#32
  let v85 : BitVec 32 := Scalar.addi v84 c128_i32_65
  ![512, v85.toNat]
def k0_dev10 (d0 : Dev nD) : Nat :=
  let c0_i32_91 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_90 : BitVec 32 := 1#32
  let v113 : BitVec 32 := Scalar.muli v4 c1_i32_90
  let v114 : BitVec 32 := Scalar.addi c0_i32_91 v113
  v114.toNat
def k0_off9 (d0 : Dev nD) : Fin 2 → Nat :=
  let c0_106 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_105 : BitVec 32 := 256#32
  let v130 : BitVec 32 := Scalar.muli v4 c256_i32_105
  let v131 : Index := Scalar.indexCast v130
  ![0, v131.toNat]
def k0_dev11 (d0 : Dev nD) : Nat :=
  let c0_i32_116 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_115 : BitVec 32 := 1#32
  let v139 : BitVec 32 := Scalar.muli v4 c1_i32_115
  let v140 : BitVec 32 := Scalar.addi c0_i32_116 v139
  v140.toNat
def k0_off10 (d0 : Dev nD) : Fin 2 → Nat :=
  let c0_133 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_131 : BitVec 32 := 256#32
  let v157 : BitVec 32 := Scalar.muli v3 c256_i32_131
  let c128_i32_132 : BitVec 32 := 128#32
  let v158 : BitVec 32 := Scalar.addi v157 c128_i32_132
  let v159 : Index := Scalar.indexCast v158
  ![0, v159.toNat]
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_142 : BitVec 32 := 1#32
  let v167 : BitVec 32 := Scalar.muli v3 c1_i32_142
  let v168 : BitVec 32 := Scalar.addi c0_i32_143 v167
  v168.toNat
def k0_off11 (d0 : Dev nD) : Fin 2 → Nat :=
  let c512_159 : Index := 512#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_158 : BitVec 32 := 256#32
  let v185 : BitVec 32 := Scalar.muli v4 c256_i32_158
  let v186 : Index := Scalar.indexCast v185
  ![512, v186.toNat]
def k0_dev13 (d0 : Dev nD) : Nat :=
  let c0_i32_170 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_169 : BitVec 32 := 1#32
  let v194 : BitVec 32 := Scalar.muli v4 c1_i32_169
  let v195 : BitVec 32 := Scalar.addi c0_i32_170 v194
  v195.toNat
def k0_off12 (d0 : Dev nD) : Fin 2 → Nat :=
  let c512_187 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_185 : BitVec 32 := 256#32
  let v212 : BitVec 32 := Scalar.muli v3 c256_i32_185
  let c128_i32_186 : BitVec 32 := 128#32
  let v213 : BitVec 32 := Scalar.addi v212 c128_i32_186
  let v214 : Index := Scalar.indexCast v213
  ![512, v214.toNat]
def k0_dev14 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_197 : BitVec 32 := 1#32
  let v222 : BitVec 32 := Scalar.muli v3 c1_i32_197
  let v223 : BitVec 32 := Scalar.addi c0_i32_198 v222
  v223.toNat
def k0_off13 (d0 : Dev nD) : Fin 2 → Nat :=
  let c0_224 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_223 : BitVec 32 := 256#32
  let v248 : BitVec 32 := Scalar.muli v2 c256_i32_223
  let v249 : Index := Scalar.indexCast v248
  ![0, v249.toNat]
def k0_dev15 (d0 : Dev nD) : Nat :=
  let c0_i32_240 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_239 : BitVec 32 := 1#32
  let v273 : BitVec 32 := Scalar.muli v4 c1_i32_239
  let v274 : BitVec 32 := Scalar.addi c0_i32_240 v273
  v274.toNat
def k0_dev16 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_247 : BitVec 32 := 1#32
  let v282 : BitVec 32 := Scalar.muli v3 c1_i32_247
  let v283 : BitVec 32 := Scalar.addi c0_i32_248 v282
  v283.toNat
def k0_off14 (d0 : Dev nD) : Fin 2 → Nat :=
  let c0_275 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_273 : BitVec 32 := 256#32
  let v307 : BitVec 32 := Scalar.muli v2 c256_i32_273
  let c128_i32_274 : BitVec 32 := 128#32
  let v308 : BitVec 32 := Scalar.addi v307 c128_i32_274
  let v309 : Index := Scalar.indexCast v308
  ![0, v309.toNat]
def k0_dev17 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_289 : BitVec 32 := 1#32
  let v334 : BitVec 32 := Scalar.muli v3 c1_i32_289
  let v335 : BitVec 32 := Scalar.addi c0_i32_290 v334
  v335.toNat
def k0_dev18 (d0 : Dev nD) : Nat :=
  let c0_i32_298 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_297 : BitVec 32 := 1#32
  let v343 : BitVec 32 := Scalar.muli v4 c1_i32_297
  let v344 : BitVec 32 := Scalar.addi c0_i32_298 v343
  v344.toNat
def k0_off15 (d0 : Dev nD) : Fin 2 → Nat :=
  let c512_324 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_323 : BitVec 32 := 256#32
  let v368 : BitVec 32 := Scalar.muli v2 c256_i32_323
  let v369 : Index := Scalar.indexCast v368
  ![512, v369.toNat]
def k0_dev19 (d0 : Dev nD) : Nat :=
  let c0_i32_340 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_339 : BitVec 32 := 1#32
  let v393 : BitVec 32 := Scalar.muli v4 c1_i32_339
  let v394 : BitVec 32 := Scalar.addi c0_i32_340 v393
  v394.toNat
def k0_dev20 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_347 : BitVec 32 := 1#32
  let v402 : BitVec 32 := Scalar.muli v3 c1_i32_347
  let v403 : BitVec 32 := Scalar.addi c0_i32_348 v402
  v403.toNat
def k0_off16 (d0 : Dev nD) : Fin 2 → Nat :=
  let c512_375 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_373 : BitVec 32 := 256#32
  let v427 : BitVec 32 := Scalar.muli v2 c256_i32_373
  let c128_i32_374 : BitVec 32 := 128#32
  let v428 : BitVec 32 := Scalar.addi v427 c128_i32_374
  let v429 : Index := Scalar.indexCast v428
  ![512, v429.toNat]
def k0_dev21 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_391 : BitVec 32 := 1#32
  let v454 : BitVec 32 := Scalar.muli v3 c1_i32_391
  let v455 : BitVec 32 := Scalar.addi c0_i32_392 v454
  v455.toNat
def k0_dev22 (d0 : Dev nD) : Nat :=
  let c0_i32_400 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_399 : BitVec 32 := 1#32
  let v463 : BitVec 32 := Scalar.muli v4 c1_i32_399
  let v464 : BitVec 32 := Scalar.addi c0_i32_400 v463
  v464.toNat
def k0_dev23 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_418 : BitVec 32 := 1#32
  let v480 : BitVec 32 := Scalar.muli v3 c1_i32_418
  let v481 : BitVec 32 := Scalar.addi c0_i32_419 v480
  v481.toNat
def k0_dev24 (d0 : Dev nD) : Nat :=
  let c0_i32_438 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_437 : BitVec 32 := 1#32
  let v498 : BitVec 32 := Scalar.muli v4 c1_i32_437
  let v499 : BitVec 32 := Scalar.addi c0_i32_438 v498
  v499.toNat
def k0_off17 (d0 : Dev nD) : Fin 2 → Nat :=
  let c0_468 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_467 : BitVec 32 := 256#32
  let v532 : BitVec 32 := Scalar.muli v3 c256_i32_467
  let v533 : Index := Scalar.indexCast v532
  ![0, v533.toNat]
def k0_off18 (d0 : Dev nD) : Fin 2 → Nat :=
  let c0_484 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_482 : BitVec 32 := 256#32
  let v546 : BitVec 32 := Scalar.muli v4 c256_i32_482
  let c128_i32_483 : BitVec 32 := 128#32
  let v547 : BitVec 32 := Scalar.addi v546 c128_i32_483
  let v548 : Index := Scalar.indexCast v547
  ![0, v548.toNat]
def k0_off19 (d0 : Dev nD) : Fin 2 → Nat :=
  let c0_499 : Index := 0#32
  let c3_i32_497 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v561 : BitVec 32 := Scalar.subi c3_i32_497 v3
  let c256_i32_498 : BitVec 32 := 256#32
  let v562 : BitVec 32 := Scalar.muli v561 c256_i32_498
  let v563 : Index := Scalar.indexCast v562
  ![0, v563.toNat]
def k0_off20 (d0 : Dev nD) : Fin 2 → Nat :=
  let c0_515 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_512 : BitVec 32 := 1#32
  let v576 : BitVec 32 := Scalar.xori v4 c1_i32_512
  let c256_i32_513 : BitVec 32 := 256#32
  let v577 : BitVec 32 := Scalar.muli v576 c256_i32_513
  let c128_i32_514 : BitVec 32 := 128#32
  let v578 : BitVec 32 := Scalar.addi v577 c128_i32_514
  let v579 : Index := Scalar.indexCast v578
  ![0, v579.toNat]
def k0_dev25 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_529 : BitVec 32 := 1#32
  let v589 : BitVec 32 := Scalar.muli v3 c1_i32_529
  let v590 : BitVec 32 := Scalar.addi c0_i32_530 v589
  v590.toNat
def k0_dev26 (d0 : Dev nD) : Nat :=
  let c0_i32_549 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_548 : BitVec 32 := 1#32
  let v607 : BitVec 32 := Scalar.muli v4 c1_i32_548
  let v608 : BitVec 32 := Scalar.addi c0_i32_549 v607
  v608.toNat
def k0_off21 (d0 : Dev nD) : Fin 2 → Nat :=
  let c512_579 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_578 : BitVec 32 := 256#32
  let v641 : BitVec 32 := Scalar.muli v3 c256_i32_578
  let v642 : Index := Scalar.indexCast v641
  ![512, v642.toNat]
def k0_off22 (d0 : Dev nD) : Fin 2 → Nat :=
  let c512_595 : Index := 512#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_593 : BitVec 32 := 256#32
  let v655 : BitVec 32 := Scalar.muli v4 c256_i32_593
  let c128_i32_594 : BitVec 32 := 128#32
  let v656 : BitVec 32 := Scalar.addi v655 c128_i32_594
  let v657 : Index := Scalar.indexCast v656
  ![512, v657.toNat]
def k0_off23 (d0 : Dev nD) : Fin 2 → Nat :=
  let c512_611 : Index := 512#32
  let c3_i32_609 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v670 : BitVec 32 := Scalar.subi c3_i32_609 v3
  let c256_i32_610 : BitVec 32 := 256#32
  let v671 : BitVec 32 := Scalar.muli v670 c256_i32_610
  let v672 : Index := Scalar.indexCast v671
  ![512, v672.toNat]
def k0_off24 (d0 : Dev nD) : Fin 2 → Nat :=
  let c512_628 : Index := 512#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_625 : BitVec 32 := 1#32
  let v685 : BitVec 32 := Scalar.xori v4 c1_i32_625
  let c256_i32_626 : BitVec 32 := 256#32
  let v686 : BitVec 32 := Scalar.muli v685 c256_i32_626
  let c128_i32_627 : BitVec 32 := 128#32
  let v687 : BitVec 32 := Scalar.addi v686 c128_i32_627
  let v688 : Index := Scalar.indexCast v687
  ![512, v688.toNat]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Mesh.lean ====
/-
# The mesh, the transfers and the pieces of memory

The four devices form a square: every device has two neighbours, `p1` (its number with the last bit flipped) and
`p2` (three minus its number), and the device across, `dg`. The kernel makes 24 remote copies per device, numbered
as the kernel numbers its semaphores: copy `j` is the half `j % 2` (upper or lower 512 rows) of EDGE `j / 2`, and an
edge always goes to the same neighbour and lands in the same slot there.

This file names those things: neighbours, the orders in which the kernel starts the copies and waits for them, the
slots the copies land in, the pieces of memory they are read from, the semaphore cells, and the element sets of the
pieces (which pieces are disjoint, which families cover a buffer).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.VecWindow
public import Idealize.ShloMosaic.Lib.Pipeline.Value

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Neighbours -/

set_option backward.proofsInPublic true in
/-- The neighbour whose number differs in the last bit. -/
def p1 (c : Dev nD) : Dev nD := ⟨![1, 0, 3, 2] c, by revert c; decide⟩
set_option backward.proofsInPublic true in
/-- The neighbour whose number adds up to three. -/
def p2 (c : Dev nD) : Dev nD := ⟨![3, 2, 1, 0] c, by revert c; decide⟩
set_option backward.proofsInPublic true in
/-- The device across. -/
def dg (c : Dev nD) : Dev nD := ⟨![2, 3, 0, 1] c, by revert c; decide⟩

theorem p1_p1 (c : Dev nD) : p1 (p1 c) = c := by revert c; decide
theorem p2_p2 (c : Dev nD) : p2 (p2 c) = c := by revert c; decide
theorem p1_ne_p2 (c : Dev nD) : p1 c ≠ p2 c := by revert c; decide

def flip1 : Dev nD ≃ Dev nD := ⟨p1, p1, p1_p1, p1_p1⟩
def flip2 : Dev nD ≃ Dev nD := ⟨p2, p2, p2_p2, p2_p2⟩

/-! ## The copies -/

set_option backward.proofsInPublic true in
/-- The edge of a copy, and which half of the rows it moves. -/
def edg (j : Fin 24) : Fin 12 := ⟨j.val / 2, by have := j.isLt; omega⟩
set_option backward.proofsInPublic true in
def hlf (j : Fin 24) : Fin 2 := ⟨j.val % 2, by omega⟩

/-- Whether an edge goes to the neighbour `p1` (else `p2`). -/
def via1 : Fin 12 → Bool := ![true, true, false, false, false, true, false, true, true, true, false, false]

/-- Where copy `j` of device `c` goes, which is also where the copy `j` that lands on `c` comes from. -/
def peer (j : Fin 24) (c : Dev nD) : Dev nD := if via1 (edg j) then p1 c else p2 c

theorem peer_peer (j : Fin 24) (c : Dev nD) : peer j (peer j c) = c := by
  unfold peer; split
  · exact p1_p1 c
  · exact p2_p2 c

/-- The order in which a device starts its copies (and waits for their completion at the source). -/
def sOrd : Fin 24 → Fin 24 := ![2, 6, 0, 4, 3, 7, 1, 5, 8, 10, 9, 11, 12, 16, 14, 20, 13, 17, 15, 21, 18, 22, 19, 23]
/-- The place of a copy in that order. -/
def sPos : Fin 24 → Fin 24 := ![2, 6, 0, 4, 3, 7, 1, 5, 8, 10, 9, 11, 12, 16, 14, 18, 13, 17, 20, 22, 15, 19, 21, 23]
/-- The order in which a device waits for the copies landing on it. -/
def rOrd : Fin 24 → Fin 24 := ![2, 6, 3, 7, 0, 8, 4, 10, 1, 9, 5, 11, 12, 14, 16, 20, 18, 22, 13, 15, 17, 21, 19, 23]
/-- The place of a copy in that order. -/
def rPos : Fin 24 → Fin 24 := ![4, 8, 0, 2, 6, 10, 1, 3, 5, 9, 7, 11, 12, 18, 13, 19, 14, 20, 16, 22, 15, 21, 17, 23]

theorem sPos_sOrd (p : Fin 24) : sPos (sOrd p) = p := by revert p; decide
theorem sOrd_sPos (j : Fin 24) : sOrd (sPos j) = j := by revert j; decide
theorem rPos_rOrd (p : Fin 24) : rPos (rOrd p) = p := by revert p; decide
theorem rOrd_rPos (j : Fin 24) : rOrd (rPos j) = j := by revert j; decide

def sPerm : Fin 24 ≃ Fin 24 := ⟨sOrd, sPos, sPos_sOrd, sOrd_sPos⟩
def rPerm : Fin 24 ≃ Fin 24 := ⟨rOrd, rPos, rPos_rOrd, rOrd_rPos⟩

/-! ## Pieces of a buffer -/

/-- A rectangle of unit steps that stays inside. -/
theorem slot_inb {n : ℕ} (x : Fin n) (h : Fin 2) :
    ∀ a, (![x.val, 512 * h.val, 0] : Fin 3 → ℕ) a + S1x512x128.size a ≤ (⟨3, ![n, 1024, 128]⟩ : Shape).size a := by
  have := x.isLt; have := h.isLt
  intro a; fin_cases a
  · show x.val + 1 ≤ n; omega
  · show 512 * h.val + 512 ≤ 1024; omega
  · show 0 + 128 ≤ 128; omega

/-- The rectangle of slot `(x, h)` in a buffer of `n` slots of 1024 × 128: half `h` of slot `x`. -/
abbrev slotR {n : ℕ} (x : Fin n) (h : Fin 2) : Rect (⟨3, ![n, 1024, 128]⟩ : Shape) :=
  Rect.unit ![x.val, 512 * h.val, 0] S1x512x128.size (slot_inb x h)

/-- The slot as a 512 × 128 array. -/
abbrev slotM {n : ℕ} (M : Memref sig .tc .vmem (⟨3, ![n, 1024, 128]⟩ : Shape) .bf16) (x : Fin n) (h : Fin 2) :
    Memref sig .tc .vmem S512x128 .bf16 :=
  (M.slice (slotR x h) (fun _ => rfl)).squeeze S512x128 squeezes_S1x512x128_S512x128

theorem tile_inb {nb : ℕ} (h : Fin 2) (b : Fin nb) :
    ∀ a, (![512 * h.val, 128 * b.val] : Fin 2 → ℕ) a + S512x128.size a ≤ (⟨2, ![1024, 128 * nb]⟩ : Shape).size a := by
  have := h.isLt; have := b.isLt
  intro a; fin_cases a
  · show 512 * h.val + 512 ≤ 1024; omega
  · show 128 * b.val + 128 ≤ 128 * nb; omega

/-- The rectangle of tile `(h, b)` in a 1024 × 128·nb array: half `h` of the rows, block `b` of 128 columns. -/
abbrev tileR {nb : ℕ} (h : Fin 2) (b : Fin nb) : Rect (⟨2, ![1024, 128 * nb]⟩ : Shape) :=
  Rect.unit ![512 * h.val, 128 * b.val] S512x128.size (tile_inb h b)

abbrev tileM {nb : ℕ} {e : EltTy} (M : Memref sig .tc .vmem (⟨2, ![1024, 128 * nb]⟩ : Shape) e) (h : Fin 2) (b : Fin nb) :
    Memref sig .tc .vmem S512x128 e := M.slice (tileR h b) (fun _ => rfl)

theorem row_inb (h : Fin 2) :
    ∀ a, (![512 * h.val, 0] : Fin 2 → ℕ) a + S512x1024.size a ≤ S1024x1024.size a := by
  have := h.isLt
  intro a; fin_cases a
  · show 512 * h.val + 512 ≤ 1024; omega
  · show 0 + 1024 ≤ 1024; omega

/-! ## The kernel's buffers -/

abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
/-- The device's product of its blocks, -/
abbrev zM : Memref sig .tc .vmem S1024x1024 .bf16 := Memref.whole cc0_scratch0
/-- its block of `B` in the short format, -/
abbrev bbM : Memref sig .tc .vmem S512x1024 .bf16 := Memref.whole cc0_scratch1
/-- the partial sums it sends in the second step, -/
abbrev sbM : Memref sig .tc .vmem S2x1024x128 .bf16 := Memref.whole cc0_scratch2
/-- the slots of the first and of the second step, -/
abbrev r1M : Memref sig .tc .vmem S4x1024x128 .bf16 := Memref.whole cc0_scratch3
abbrev r2M : Memref sig .tc .vmem S2x1024x128 .bf16 := Memref.whole cc0_scratch4
/-- its own finished columns, and the slots of the others' columns. -/
abbrev agM : Memref sig .tc .vmem S1024x256 .bf16 := Memref.whole cc0_scratch5
abbrev alM : Memref sig .tc .vmem S6x1024x128 .bf16 := Memref.whole cc0_scratch6

/-- Half `h` of the rows of the product. -/
abbrev rowM (h : Fin 2) : Memref sig .tc .vmem S512x1024 .bf16 :=
  zM.slice (Rect.unit (s := S1024x1024) ![512 * h.val, 0] S512x1024.size (row_inb h)) (fun _ => rfl)
/-- Column block `b` of 128 of the product, half `h` of the rows. -/
abbrev ztM (h : Fin 2) (b : Fin 8) : Memref sig .tc .vmem S512x128 .bf16 := tileM (nb := 8) zM h b
abbrev otM (h : Fin 2) (b : Fin 8) : Memref sig .tc .vmem S512x128 .f32 := tileM (nb := 8) oM h b
abbrev agtM (h : Fin 2) (b : Fin 2) : Memref sig .tc .vmem S512x128 .bf16 := tileM (nb := 2) agM h b

set_option backward.proofsInPublic true in
/-- The two column blocks device `q` is responsible for. -/
def qa (q : Dev nD) : Fin 8 := ⟨2 * q.val, by have h : q.val < 4 := q.isLt; omega⟩
set_option backward.proofsInPublic true in
def qb (q : Dev nD) : Fin 8 := ⟨2 * q.val + 1, by have h : q.val < 4 := q.isLt; omega⟩

/-- Where an edge's copy lands. -/
def landM (e : Fin 12) (h : Fin 2) : Memref sig .tc .vmem S512x128 .bf16 :=
  match e with
  | 0 => slotM r1M 0 h
  | 1 => slotM r1M 1 h
  | 2 => slotM r1M 2 h
  | 3 => slotM r1M 3 h
  | 4 => slotM r2M 0 h
  | 5 => slotM r2M 1 h
  | 6 => slotM alM 0 h
  | 7 => slotM alM 1 h
  | 8 => slotM alM 2 h
  | 9 => slotM alM 4 h
  | 10 => slotM alM 3 h
  | 11 => slotM alM 5 h

/-- The piece of device `c` an edge's copy reads. -/
def fromM (c : Dev nD) (e : Fin 12) (h : Fin 2) : Memref sig .tc .vmem S512x128 .bf16 :=
  match e with
  | 0 => ztM h (qa (p1 c))
  | 1 => ztM h (qa (dg c))
  | 2 => ztM h (qb (p2 c))
  | 3 => ztM h (qb (dg c))
  | 4 => slotM sbM 0 h
  | 5 => slotM sbM 1 h
  | 6 => agtM h 0
  | 7 => agtM h 1
  | 8 => agtM h 0
  | 9 => slotM alM 0 h
  | 10 => agtM h 1
  | 11 => slotM alM 1 h

abbrev dstM (j : Fin 24) : Memref sig .tc .vmem S512x128 .bf16 := landM (edg j) (hlf j)
abbrev srcM (c : Dev nD) (j : Fin 24) : Memref sig .tc .vmem S512x128 .bf16 := fromM c (edg j) (hlf j)

/-- The share of its source a copy reads under: a piece sent twice, or read while it is sent, is split in two. -/
def srcQ (j : Fin 24) : PosShare TreeShare :=
  match edg j with
  | 6 | 7 => fullShare.left
  | 8 | 9 | 10 | 11 => fullShare.right
  | _ => fullShare
/-- The share of a landed piece its receiver keeps for itself: a piece passed on is split in two. -/
def lndQ (j : Fin 24) : PosShare TreeShare :=
  match edg j with
  | 6 | 7 => fullShare.left
  | _ => fullShare

/-! ## The semaphore cells -/

/-- The runtime's barrier semaphore. -/
abbrev barS : Sem sig := (SemArray.scalar (sig.barrier 0 rfl) : Sems sig S_).sem

set_option backward.proofsInPublic true in
/-- The kernel's own DMA semaphores: 24 at the sources, then 24 at the destinations. -/
def dsem (i : Fin 48) : DmaSem sig := ⟨3 + i.val, by have := i.isLt; show 3 + i.val < 51; omega⟩
set_option backward.proofsInPublic true in
def sIx (j : Fin 24) : Fin 48 := ⟨j.val, by have := j.isLt; omega⟩
set_option backward.proofsInPublic true in
def rIx (j : Fin 24) : Fin 48 := ⟨24 + j.val, by have := j.isLt; omega⟩
abbrev sendS (j : Fin 24) : DmaSem sig := dsem (sIx j)
abbrev recvS (j : Fin 24) : DmaSem sig := dsem (rIx j)

abbrev barCell (c : Dev nD) : GSem nD τ sig := ((c : Thread nD τ), .reg barS)
abbrev sendCell (c : Dev nD) (j : Fin 24) : GSem nD τ sig := ((c : Thread nD τ), .dma (sendS j))
abbrev recvCell (c : Dev nD) (j : Fin 24) : GSem nD τ sig := ((c : Thread nD τ), .dma (recvS j))

theorem dsem_inj {i i' : Fin 48} (h : dsem i = dsem i') : i = i' := by
  have h' : 3 + i.val = 3 + i'.val := congrArg (fun s : DmaSem sig => s.val) h
  exact Fin.ext (by omega)
theorem sIx_inj {j j' : Fin 24} (h : sIx j = sIx j') : j = j' := by
  have h' : j.val = j'.val := congrArg (fun i : Fin 48 => i.val) h
  exact Fin.ext h'
theorem rIx_inj {j j' : Fin 24} (h : rIx j = rIx j') : j = j' := by
  have h' : 24 + j.val = 24 + j'.val := congrArg (fun i : Fin 48 => i.val) h
  exact Fin.ext (by omega)
theorem sIx_ne_rIx (j j' : Fin 24) : sIx j ≠ rIx j' := fun h => by
  have h' : j.val = 24 + j'.val := congrArg (fun i : Fin 48 => i.val) h
  have := j.isLt; omega

/-- What one copy credits: 512 × 128 elements of the short format. -/
abbrev N : ℕ := (dstM 0).view.dmaCredit
theorem N_pos : 0 < N := View.dmaCredit_pos _ (by decide)
theorem credit_land (e : Fin 12) (h : Fin 2) : (landM e h).view.dmaCredit = N := by
  fin_cases e <;> rfl
theorem credit_dst (j : Fin 24) : (dstM j).view.dmaCredit = N := credit_land _ _

/-! ## Which pieces are disjoint, which cover -/

theorem slot_mem {n : ℕ} {x : Fin n} {h : Fin 2} {i : (⟨3, ![n, 1024, 128]⟩ : Shape).Idx} :
    i ∈ (slotR x h).set ↔ (i 0).val = x.val ∧ (i 1).val / 512 = h.val := by
  have h1 : (i 1).val < 1024 := (i 1).isLt
  have h2 : (i 2).val < 128 := (i 2).isLt
  have hh := h.isLt
  rw [Rect.mem_set_unit]
  constructor
  · intro hm
    have a0 : x.val ≤ (i 0).val ∧ (i 0).val < x.val + 1 := hm 0
    have a1 : 512 * h.val ≤ (i 1).val ∧ (i 1).val < 512 * h.val + 512 := hm 1
    omega
  · rintro ⟨e0, e1⟩ a
    fin_cases a
    · show x.val ≤ (i 0).val ∧ (i 0).val < x.val + 1; omega
    · show 512 * h.val ≤ (i 1).val ∧ (i 1).val < 512 * h.val + 512; omega
    · show 0 ≤ (i 2).val ∧ (i 2).val < 0 + 128; omega

theorem tile_mem {nb : ℕ} {h : Fin 2} {b : Fin nb} {i : (⟨2, ![1024, 128 * nb]⟩ : Shape).Idx} :
    i ∈ (tileR h b).set ↔ (i 0).val / 512 = h.val ∧ (i 1).val / 128 = b.val := by
  have h0 : (i 0).val < 1024 := (i 0).isLt
  have hh := h.isLt
  rw [Rect.mem_set_unit]
  constructor
  · intro hm
    have a0 : 512 * h.val ≤ (i 0).val ∧ (i 0).val < 512 * h.val + 512 := hm 0
    have a1 : 128 * b.val ≤ (i 1).val ∧ (i 1).val < 128 * b.val + 128 := hm 1
    omega
  · rintro ⟨e0, e1⟩ a
    fin_cases a
    · show 512 * h.val ≤ (i 0).val ∧ (i 0).val < 512 * h.val + 512; omega
    · show 128 * b.val ≤ (i 1).val ∧ (i 1).val < 128 * b.val + 128; omega

/-- The rectangle of a half of the rows of the product. -/
abbrev rowR (h : Fin 2) : Rect S1024x1024 := Rect.unit (s := S1024x1024) ![512 * h.val, 0] S512x1024.size (row_inb h)

theorem row_mem {h : Fin 2} {i : S1024x1024.Idx} : i ∈ (rowR h).set ↔ (i 0).val / 512 = h.val := by
  have h0 : (i 0).val < 1024 := (i 0).isLt
  have h1 : (i 1).val < 1024 := (i 1).isLt
  have hh := h.isLt
  rw [Rect.mem_set_unit]
  constructor
  · intro hm
    have a0 : 512 * h.val ≤ (i 0).val ∧ (i 0).val < 512 * h.val + 512 := hm 0
    omega
  · intro e0 a
    fin_cases a
    · show 512 * h.val ≤ (i 0).val ∧ (i 0).val < 512 * h.val + 512; omega
    · show 0 ≤ (i 1).val ∧ (i 1).val < 0 + 1024; omega

/-- Different slots are disjoint, -/
theorem slot_disjoint {n : ℕ} {p p' : Fin n × Fin 2} (h : p ≠ p') : Disjoint (slotR p.1 p.2).set (slotR p'.1 p'.2).set := by
  rw [Finset.disjoint_left]
  intro i hi hi'
  have a := slot_mem.mp hi; have a' := slot_mem.mp hi'
  exact h (Prod.ext (Fin.ext (a.1.symm.trans a'.1)) (Fin.ext (a.2.symm.trans a'.2)))
/-- and together they are the buffer; -/
theorem slot_cover (n : ℕ) : Finset.univ.biUnion (fun p : Fin n × Fin 2 => (slotR p.1 p.2).set) = Finset.univ := by
  ext i
  simp only [Finset.mem_biUnion, Finset.mem_univ, true_and, iff_true]
  have h1 : (i 1).val < 1024 := (i 1).isLt
  exact ⟨(⟨(i 0).val, (i 0).isLt⟩, ⟨(i 1).val / 512, by omega⟩), slot_mem.mpr ⟨rfl, rfl⟩⟩
/-- likewise the tiles, -/
theorem tile_disjoint {nb : ℕ} {p p' : Fin 2 × Fin nb} (h : p ≠ p') : Disjoint (tileR p.1 p.2).set (tileR p'.1 p'.2).set := by
  rw [Finset.disjoint_left]
  intro i hi hi'
  have a := tile_mem.mp hi; have a' := tile_mem.mp hi'
  exact h (Prod.ext (Fin.ext (a.1.symm.trans a'.1)) (Fin.ext (a.2.symm.trans a'.2)))
theorem tile_cover (nb : ℕ) : Finset.univ.biUnion (fun p : Fin 2 × Fin nb => (tileR p.1 p.2).set) = Finset.univ := by
  ext i
  simp only [Finset.mem_biUnion, Finset.mem_univ, true_and, iff_true]
  have h0 : (i 0).val < 1024 := (i 0).isLt
  have h1 : (i 1).val < 128 * nb := (i 1).isLt
  exact ⟨(⟨(i 0).val / 512, by omega⟩, ⟨(i 1).val / 128, by omega⟩), tile_mem.mpr ⟨rfl, rfl⟩⟩
/-- the two halves of the rows, -/
theorem row_disjoint {h h' : Fin 2} (hn : h ≠ h') : Disjoint (rowR h).set (rowR h').set := by
  rw [Finset.disjoint_left]
  intro i hi hi'
  exact hn (Fin.ext ((row_mem.mp hi).symm.trans (row_mem.mp hi')))
theorem row_cover : Finset.univ.biUnion (fun h : Fin 2 => (rowR h).set) = Finset.univ := by
  ext i
  simp only [Finset.mem_biUnion, Finset.mem_univ, true_and, iff_true]
  have h0 : (i 0).val < 1024 := (i 0).isLt
  exact ⟨⟨(i 0).val / 512, by omega⟩, row_mem.mpr rfl⟩
/-- and the tiles of one half of the rows. -/
theorem row_tiles (h : Fin 2) : Finset.univ.biUnion (fun b : Fin 8 => (tileR (nb := 8) h b).set) = (rowR h).set := by
  ext i
  have h1 : (i 1).val < 1024 := (i 1).isLt
  rw [Finset.mem_biUnion, row_mem]
  constructor
  · rintro ⟨b, -, hb⟩; exact (tile_mem.mp hb).1
  · intro e; exact ⟨⟨(i 1).val / 128, by omega⟩, Finset.mem_univ _, tile_mem.mpr ⟨e, rfl⟩⟩

end Cert.Ring

end

end
-- ==== Proof.Values.lean ====
/-
# What every piece of memory comes to hold

For arbitrary contents at the launch, each piece the kernel stores or sends holds a fixed value: a function of the
devices' own argument blocks. This file defines those values — the product of a device's blocks, the pieces it sends
in each of the three steps, its finished columns, its result — as the kernel's own payloads of one another, and the
way a piece is HELD at a value. The rules for loads and stores of a held piece follow.
-/
module

public import proofs.«01_k».proof.Proof.Mesh

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the kernel's own (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Values -/

/-- The staged argument blocks of device `c`. -/
def aStg (c : Dev nD) : (cc0_stg0_0 : Ref sig .tc).ty.Contents (Elt F) :=
  (win0_0.blk (0 : Fin 1)).view.read (Elt F) (m ((c : Thread nD τ).loc main_arg0))
def bStg (c : Dev nD) : (cc0_stg1_0 : Ref sig .tc).ty.Contents (Elt F) :=
  (win0_1.blk (0 : Fin 1)).view.read (Elt F) (m ((c : Thread nD τ).loc main_arg1))

theorem arow_inb (h : Fin 2) : ∀ a, (![512 * h.val, 0] : Fin 2 → ℕ) a + S512x512.size a ≤ S1024x512.size a := by
  have := h.isLt
  intro a; fin_cases a
  · show 512 * h.val + 512 ≤ 1024; omega
  · show 0 + 512 ≤ 512; omega

/-- Half `h` of the rows of a device's block of `A`. -/
def aRows (c : Dev nD) (h : Fin 2) : Vec F S512x512 .f32 :=
  aM.view.readAt (Elt F) (Rect.unit (s := S1024x512) ![512 * h.val, 0] S512x512.size (arow_inb h)).toLoadRect (aStg m c)

/-- The device's block of `B`, in the short format. -/
def bbv (c : Dev nD) : Vec F S512x1024 .bf16 := k0_pay1 (bStg m c)
/-- Half `h` of the rows of the product of the device's blocks, -/
def zrow (c : Dev nD) (h : Fin 2) : Vec F S512x1024 .bf16 := k0_pay2 (aRows m c h) (bbv m c)
/-- and column block `b` of that half. -/
def zt (c : Dev nD) (h : Fin 2) (b : Fin 8) : Vec F S512x128 .bf16 :=
  (ztM h b).view.read (Elt F) ((rowM h).view.rep (zrow m c h))

/-- A 512 × 128 piece as a load of its slot reads it, and back. -/
abbrev up (v : Vec F S512x128 .bf16) : Vec F S1x512x128 .bf16 := shapeCast S1x512x128 v shapeCasts_S512x128_S1x512x128
abbrev dn (v : Vec F S1x512x128 .bf16) : Vec F S512x128 .bf16 := shapeCast S512x128 v shapeCasts_S1x512x128_S512x128

/-- The partial sums of the second step: what came from one neighbour, added to the device's own, for the other. -/
def s4 (c : Dev nD) (h : Fin 2) : Vec F S512x128 .bf16 :=
  dn (k0_pay4 (zt m c h (qa (p2 c))) (up (zt m (p1 c) h (qa (dg (p1 c))))))
def s5 (c : Dev nD) (h : Fin 2) : Vec F S512x128 .bf16 :=
  dn (k0_pay4 (zt m c h (qb (p1 c))) (up (zt m (p2 c) h (qb (dg (p2 c))))))

/-- A device's finished columns (block `x` of its two) in the long format, -/
def sF (x : Fin 2) (c : Dev nD) (h : Fin 2) : Vec F S512x128 .f32 :=
  match x with
  | 0 => k0_pay13 (k0_pay12 (zt m c h (qa c)) (up (zt m (p1 c) h (qa (p1 (p1 c))))) (up (s4 m (p2 c) h)))
  | 1 => k0_pay13 (k0_pay12 (zt m c h (qb c)) (up (zt m (p2 c) h (qb (p2 (p2 c))))) (up (s5 m (p1 c) h)))
/-- and in the short format, as the others get them. -/
def sB (x : Fin 2) (c : Dev nD) (h : Fin 2) : Vec F S512x128 .bf16 :=
  match x with
  | 0 => k0_pay14 (k0_pay12 (zt m c h (qa c)) (up (zt m (p1 c) h (qa (p1 (p1 c))))) (up (s4 m (p2 c) h)))
  | 1 => k0_pay14 (k0_pay12 (zt m c h (qb c)) (up (zt m (p2 c) h (qb (p2 (p2 c))))) (up (s5 m (p1 c) h)))

/-- What device `c` sends over an edge. -/
def sent (c : Dev nD) (e : Fin 12) (h : Fin 2) : Vec F S512x128 .bf16 :=
  match e with
  | 0 => zt m c h (qa (p1 c))
  | 1 => zt m c h (qa (dg c))
  | 2 => zt m c h (qb (p2 c))
  | 3 => zt m c h (qb (dg c))
  | 4 => s4 m c h
  | 5 => s5 m c h
  | 6 => sB m 0 c h
  | 7 => sB m 1 c h
  | 8 => sB m 0 c h
  | 9 => sB m 0 (p2 c) h
  | 10 => sB m 1 c h
  | 11 => sB m 1 (p1 c) h

abbrev sv (c : Dev nD) (j : Fin 24) : Vec F S512x128 .bf16 := sent m c (edg j) (hlf j)
/-- What copy `j` leaves on device `c`. -/
abbrev lv' (c : Dev nD) (j : Fin 24) : Vec F S512x128 .bf16 := sv m (peer j c) j

/-- The device responsible for a column block, and which of its two blocks it is. -/
def bDev (b : Fin 8) : Dev nD := ⟨b.val / 2, by have := b.isLt; show b.val / 2 < 4; omega⟩
def bSub (b : Fin 8) : Fin 2 := ⟨b.val % 2, by omega⟩

/-- Tile `(h, b)` of device `c`'s result: its own columns as computed, the others' as received. -/
def ov (c : Dev nD) (h : Fin 2) (b : Fin 8) : Vec F S512x128 .f32 :=
  if bDev b = c then sF m (bSub b) c h else k0_pay22 (up (sB m (bSub b) (bDev b) h))

/-! ## Pieces held -/

/-- Device `c` holds the piece under `M`, at share `q`, with value `v`. -/
def own {s : Shape} {e : EltTy} (c : Dev nD) (M : Memref sig .tc .vmem s e) (q : PosShare TreeShare) (v : s.Idx → Elt F e) : sProp 𝕄 :=
  M.view.loc (c : Thread nD τ) ↦[M.view.set]{q} M.view.rep v
/-- Device `c` holds the piece under `M` whole, at some value. -/
def ownX {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

instance own_storable {s : Shape} {e : EltTy} (c : Dev nD) (M : Memref sig .tc .vmem s e) (q) (v : s.Idx → Elt F e) :
    BI.Storable (upEmb : UEmb _ 𝕄) (own (F := F) c M q v) := by unfold own; infer_instance
instance ownX_storable {s : Shape} {e : EltTy} (c : Dev nD) (M : Memref sig .tc .vmem s e) :
    BI.Storable (upEmb : UEmb _ 𝕄) (ownX (F := F) c M) := by unfold ownX; infer_instance

/-- Contents that read `v` are as good as any. -/
theorem own_of_read {s : Shape} {e : EltTy} (c : Dev nD) (M : Memref sig .tc .vmem s e) (q : PosShare TreeShare) (v : s.Idx → Elt F e)
    (f : Buf (Elt F) (M.view.loc (c : Thread nD τ))) (h : M.view.read (Elt F) f = v) :
    (M.view.loc (c : Thread nD τ) ↦[M.view.set]{q} f : sProp 𝕄) = own c M q v := by
  subst h; exact pointsTo_rep (c : Thread nD τ) M f q

theorem own_ownX {s : Shape} {e : EltTy} (c : Dev nD) (M : Memref sig .tc .vmem s e) (v : s.Idx → Elt F e) :
    own (F := F) c M fullShare v ⊢ ownX c M := by
  unfold own ownX; iintro H; iexists _; iexact H

theorem own_halves {s : Shape} {e : EltTy} (c : Dev nD) (M : Memref sig .tc .vmem s e) (q : PosShare TreeShare) (v : s.Idx → Elt F e) :
    own (F := F) c M q v ⊣⊢ iprop(own c M q.left v ∗ own c M q.right v) := by
  unfold own; exact pointsTo_share (PosShare.mem_left_op_right q)

abbrev 𝒱₀ : Variants := Variants.none

/-- The weakest precondition of a program on core `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules

variable {s : Shape} {e : EltTy} (c : Dev nD)

/-- A load of a held rectangle reads its value. -/
theorem ld_slice {α : Type} {Q : α → sProp 𝕄} {M : Memref sig .tc .vmem s e} {r : Rect s} {hr : ∀ a, r.stride a = 1} {q : PosShare TreeShare}
    {v : r.shape.Idx → Elt F e} {hl : M.view.LoadsAt r.toLoadRect} {k : (r.shape.Idx → Elt F e) → Prog (TpuEff nD τ sig (Elt F) Λ₀ .tc) α} :
    own c (M.slice r hr) q v ⊢ iprop((own c (M.slice r hr) q v -∗ WP c (k v) Q) -∗ WP c (.op (.load M r.toLoadRect hl) k) Q) := by
  unfold own
  have h := wp_load_rect (defs := defs₀ (F := F)) (Name := ℕ) (U := UU) (Lvl := ℕ) (Ix := Unit) (Γ := []) (Q := Q) 𝒱₀ (c : Thread nD τ) none Set.univ (m := M) (r := r) (hl := hl) (k := k) (q := q)
    (f := (M.slice r hr).view.rep v) (S := (M.slice r hr).view.set) (by rfl)
  have e1 : (M.access r).read (Elt F) ((M.slice r hr).view.rep v) = v := View.read_rep (M.slice r hr).view v
  rw [e1] at h
  exact h

/-- A load of a held slot reads its value as a 1 × 512 × 128 piece. -/
theorem ld_slot {α : Type} {Q : α → sProp 𝕄} {M : Memref sig .tc .vmem s .bf16} {off : Fin s.rank → ℕ} {sz : Fin s.rank → ℕ} {inb : ∀ a, off a + sz a ≤ s.size a}
    {D : Memref sig .tc .vmem S512x128 .bf16} {q : PosShare TreeShare} {v : Vec F S512x128 .bf16}
    {hq : (Rect.unit off sz inb).shape.Squeezes S512x128}
    (hc : (Rect.unit off sz inb).shape.ShapeCasts S512x128) (hc' : S512x128.ShapeCasts (Rect.unit off sz inb).shape)
    (hD : (M.slice (Rect.unit off sz inb) (fun _ => rfl)).squeeze S512x128 hq = D)
    {hl : M.view.LoadsAt (Rect.unit off sz inb).toLoadRect} {k : ((Rect.unit off sz inb).shape.Idx → Elt F .bf16) → Prog (TpuEff nD τ sig (Elt F) Λ₀ .tc) α} :
    own c D q v ⊢ iprop((own c D q v -∗ WP c (k (shapeCast _ v hc')) Q)
      -∗ WP c (.op (.load M (Rect.unit off sz inb).toLoadRect hl) k) Q) := by
  subst hD
  unfold own
  have h := wp_load_rect (defs := defs₀ (F := F)) (Name := ℕ) (U := UU) (Lvl := ℕ) (Ix := Unit) (Γ := []) (Q := Q) 𝒱₀ (c : Thread nD τ) none Set.univ (m := M) (r := Rect.unit off sz inb) (hl := hl) (k := k) (q := q)
    (f := ((M.slice (Rect.unit off sz inb) (fun _ => rfl)).squeeze S512x128 hq).view.rep v) (S := ((M.slice (Rect.unit off sz inb) (fun _ => rfl)).squeeze S512x128 hq).view.set)
    (Finset.Subset.antisymm_iff.mp (View.set_reshape (v := (M.slice (Rect.unit off sz inb) (fun _ => rfl)).view) hq.numel_eq)).2
  have e0 : shapeCast S512x128 ((M.access (Rect.unit off sz inb)).read (Elt F) (((M.slice (Rect.unit off sz inb) (fun _ => rfl)).squeeze S512x128 hq).view.rep v)) hc = v :=
    View.read_rep ((M.slice (Rect.unit off sz inb) (fun _ => rfl)).squeeze S512x128 hq).view v
  have e1 : (M.access (Rect.unit off sz inb)).read (Elt F) (((M.slice (Rect.unit off sz inb) (fun _ => rfl)).squeeze S512x128 hq).view.rep v) = shapeCast _ v hc' := by
    rw [← e0, shapeCast_shapeCast, e0]
  rw [e1] at h
  exact h

/-- The dead load and the store of a rectangle leave the stored value. -/
theorem put_slice {α : Type} {Q : α → sProp 𝕄} {M : Memref sig .tc .vmem s e} {r : Rect s} {hr : ∀ a, r.stride a = 1}
    {w : r.shape.Idx → Elt F e} {hl : M.view.LoadsAt r.toLoadRect} {hx : (M.access r).Stores Finset.univ} {hm}
    {k : PUnit → Prog (TpuEff nD τ sig (Elt F) Λ₀ .tc) α} :
    ownX c (M.slice r hr) ⊢ iprop((own c (M.slice r hr) fullShare w -∗ WP c (k ⟨⟩) Q)
      -∗ WP c (.op (.load M r.toLoadRect hl) fun _ => .op (.store M r w Finset.univ hx hm) k) Q) := by
  unfold ownX
  iintro ⟨%f, H⟩ Hk
  iapply (wp_load_rect (Γ := []) 𝒱₀ (c : Thread nD τ) none Set.univ (m := M) (r := r) (S := (M.slice r hr).view.set) (by rfl)) $$ H
  iintro H
  iapply (wp_store (Γ := []) 𝒱₀ (c : Thread nD τ) none Set.univ (m := M) (r := r) (Mk := Finset.univ) (S := (M.slice r hr).view.set) (by rfl)) $$ H
  iintro H
  iapply Hk
  ihave H' := (Entails.of_eq (own_of_read c (M.slice r hr) fullShare w ((M.access r).write (Elt F) f w Finset.univ)
    (View.read_write_univ (v := (M.slice r hr).view) f w))) $$ H
  iexact H'

/-- The dead load and the store of a slot leave the stored value, as a 512 × 128 piece. -/
theorem put_slot {α : Type} {Q : α → sProp 𝕄} {M : Memref sig .tc .vmem s .bf16} {off : Fin s.rank → ℕ} {sz : Fin s.rank → ℕ}
    {inb : ∀ a, off a + sz a ≤ s.size a} {D : Memref sig .tc .vmem S512x128 .bf16}
    {hq : (Rect.unit off sz inb).shape.Squeezes S512x128}
    (hc : (Rect.unit off sz inb).shape.ShapeCasts S512x128)
    (hD : (M.slice (Rect.unit off sz inb) (fun _ => rfl)).squeeze S512x128 hq = D)
    {w : (Rect.unit off sz inb).shape.Idx → Elt F .bf16} {hl : M.view.LoadsAt (Rect.unit off sz inb).toLoadRect}
    {hx : (M.access (Rect.unit off sz inb)).Stores Finset.univ} {hm} {k : PUnit → Prog (TpuEff nD τ sig (Elt F) Λ₀ .tc) α} :
    ownX c D ⊢ iprop((own c D fullShare (shapeCast S512x128 w hc) -∗ WP c (k ⟨⟩) Q)
      -∗ WP c (.op (.load M (Rect.unit off sz inb).toLoadRect hl) fun _ => .op (.store M (Rect.unit off sz inb) w Finset.univ hx hm) k) Q) := by
  subst hD
  have hset := View.set_reshape (v := (M.slice (Rect.unit off sz inb) (fun _ => rfl)).view) hq.numel_eq
  unfold ownX
  iintro ⟨%f, H⟩ Hk
  iapply (wp_load_rect (Γ := []) 𝒱₀ (c : Thread nD τ) none Set.univ (m := M) (r := Rect.unit off sz inb)
    (S := ((M.slice (Rect.unit off sz inb) (fun _ => rfl)).squeeze S512x128 hq).view.set) (Finset.Subset.antisymm_iff.mp hset).2) $$ H
  iintro H
  iapply (wp_store (Γ := []) 𝒱₀ (c : Thread nD τ) none Set.univ (m := M) (r := Rect.unit off sz inb) (Mk := Finset.univ)
    (S := ((M.slice (Rect.unit off sz inb) (fun _ => rfl)).squeeze S512x128 hq).view.set) (Finset.Subset.antisymm_iff.mp hset).2) $$ H
  iintro H
  iapply Hk
  ihave H' := (Entails.of_eq (own_of_read c ((M.slice (Rect.unit off sz inb) (fun _ => rfl)).squeeze S512x128 hq) fullShare (shapeCast S512x128 w hc)
    ((M.access (Rect.unit off sz inb)).write (Elt F) f w Finset.univ)
    (congrArg (fun u => shapeCast S512x128 u hc) (View.read_write_univ (v := (M.slice (Rect.unit off sz inb) (fun _ => rfl)).view) f w)))) $$ H
  iexact H'

end Rules

end Cert.Ring

end

end
-- ==== Proof.Schedule.lean ====
/-
# The schedule of the semaphore cells

Every cell runs one round. A device's barrier cell gets one unit from each neighbour, and each unit hands over the
neighbour's slots this device will send to. A source cell gets the credit of its copy, which hands the source back; a
destination cell gets the credit of the copy landing there, which hands the slot over with what has landed.

What a device owes: the credit of every copy it has not started. The levels order the waits: a barrier cell below every
destination cell, and the destination cells in the order in which the copies are started.
-/
module

public import proofs.«01_k».proof.Proof.Values

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The role of a semaphore -/

/-- What a semaphore is for: the barrier, the source or the destination of a copy, or the staging. -/
inductive Role
  | bar
  | send (j : Fin 24)
  | recv (j : Fin 24)
  | other
  deriving DecidableEq

set_option backward.proofsInPublic true in
/-- The role of each semaphore. -/
def role : SemLoc sig → Role
  | .reg s => if s = barS then .bar else .other
  | .dma q => if h : q.val < 3 then .other else if h' : q.val < 27 then .send ⟨q.val - 3, by omega⟩
      else .recv ⟨q.val - 27, by have hq : q.val < 51 := q.isLt; omega⟩

theorem role_bar : role (.reg barS) = .bar := by unfold role; exact if_pos rfl
theorem role_send (j : Fin 24) : role (.dma (sendS j)) = .send j := by revert j; decide
theorem role_recv (j : Fin 24) : role (.dma (recvS j)) = .recv j := by revert j; decide

/-! ## The schedule -/

/-- What the unit of duty `d` of `c`'s barrier cell hands over: the slots of the neighbour `d` stands for that `c` sends to. -/
def barPay (c : Dev nD) (d : Bool) : sProp 𝕄 :=
  bigSep Finset.univ fun j : Fin 24 => if via1 (edg j) = d then ownX (peer j c) (dstM j) else iprop(emp)
def sendPay (c : Dev nD) (j : Fin 24) : sProp 𝕄 := own c (srcM c j) (srcQ j) (sv m c j)
def recvPay (c : Dev nD) (j : Fin 24) : sProp 𝕄 := own c (dstM j) fullShare (lv' m c j)

instance barPay_storable (c : Dev nD) (d : Bool) : BI.Storable (upEmb : UEmb _ 𝕄) (barPay (F := F) c d) := by
  unfold barPay
  have : ∀ j : Fin 24, BI.Storable (upEmb : UEmb _ 𝕄) (if via1 (edg j) = d then ownX (F := F) (peer j c) (dstM j) else iprop(emp)) := fun j => by
    split <;> infer_instance
  infer_instance
instance sendPay_storable (c : Dev nD) (j : Fin 24) : BI.Storable (upEmb : UEmb _ 𝕄) (sendPay m c j) := by unfold sendPay; infer_instance
instance recvPay_storable (c : Dev nD) (j : Fin 24) : BI.Storable (upEmb : UEmb _ 𝕄) (recvPay m c j) := by unfold recvPay; infer_instance

def Rd : Rounds.Schedule (GSem nD τ sig) Bool 𝕄 where
  duties g r := if r = 0 ∧ g.1.2 = .tc then (match role g.2 with | .bar => Finset.univ | .send _ => {false} | .recv _ => {false} | .other => ∅) else ∅
  unitless _ := False
  amount g _ _ := match role g.2 with | .bar => 1 | _ => N
  payload g _ d := match role g.2 with
    | .bar => barPay g.1.1 d
    | .send j => sendPay m g.1.1 j
    | .recv j => recvPay m g.1.1 j
    | .other => iprop(emp)
  amount_pos g _ _ _ := by
    split
    · exact Nat.one_pos
    · exact N_pos

instance Rd_payload_storable (g : GSem nD τ sig) (r : ℕ) (d : Bool) : BI.Storable (upEmb : UEmb _ 𝕄) ((Rd (F := F) m).payload g r d) := by
  dsimp only [Rd]
  split <;> infer_instance

section Sched
variable (c : Dev nD) (j : Fin 24)

theorem duties_bar : (Rd (F := F) m).duties (barCell c) 0 = Finset.univ := by
  dsimp only [Rd]; rw [if_pos ⟨rfl, rfl⟩, role_bar]
theorem duties_send : (Rd (F := F) m).duties (sendCell c j) 0 = {false} := by
  dsimp only [Rd]; rw [if_pos ⟨rfl, rfl⟩, role_send]
theorem duties_recv : (Rd (F := F) m).duties (recvCell c j) 0 = {false} := by
  dsimp only [Rd]; rw [if_pos ⟨rfl, rfl⟩, role_recv]
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := by dsimp only [Rd]; rw [role_bar]
theorem amount_send (d : Bool) : (Rd (F := F) m).amount (sendCell c j) 0 d = N := by dsimp only [Rd]; rw [role_send]
theorem amount_recv (d : Bool) : (Rd (F := F) m).amount (recvCell c j) 0 d = N := by dsimp only [Rd]; rw [role_recv]

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (d : Bool) : (Rd (F := F) m).payload (barCell c) 0 d = barPay c d := by dsimp only [Rd]; rw [role_bar]
theorem payload_send (d : Bool) : (Rd (F := F) m).payload (sendCell c j) 0 d = sendPay m c j := by dsimp only [Rd]; rw [role_send]
theorem payload_recv (d : Bool) : (Rd (F := F) m).payload (recvCell c j) 0 d = recvPay m c j := by dsimp only [Rd]; rw [role_recv]

/-- The two units of a barrier hand over every slot this device sends to. -/
theorem barPays : iprop(barPay (F := F) c false ∗ barPay c true) = bigSep Finset.univ fun j : Fin 24 => ownX (peer j c) (dstM j) := by
  unfold barPay
  rw [← bigSep_sep']
  refine bigSep_congr fun j _ => ?_
  cases via1 (edg j)
  · exact equiv_iff.mp Idealize.SL.BI.sep_emp
  · exact equiv_iff.mp Idealize.SL.BI.emp_sep

theorem rest_bar : bigSep ((Rd (F := F) m).duties (barCell c) 0 \ ∅) (fun d => (Rd (F := F) m).payload (barCell c) 0 d)
    = bigSep Finset.univ fun j : Fin 24 => ownX (peer j c) (dstM j) := by
  rw [Finset.sdiff_empty, duties_bar, bigSep_univ_eq_bigSepL [false, true] (by decide) (by decide), bigSepL_cons_cons, bigSepL_singleton,
    payload_bar, payload_bar]
  exact barPays c
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

/-- What a device hands its neighbours at the barrier: all its slots. -/
theorem slots_eq : (bigSep Finset.univ fun j : Fin 24 => ownX (F := F) c (dstM j)) = iprop(barPay (p1 c) true ∗ barPay (p2 c) false) := by
  unfold barPay
  rw [← bigSep_sep']
  refine bigSep_congr fun j _ => ?_
  have h1 : ∀ c', peer j c' = if via1 (edg j) then p1 c' else p2 c' := fun _ => rfl
  rw [h1, h1]
  cases via1 (edg j)
  · show _ = iprop(emp ∗ ownX (p2 (p2 c)) (dstM j))
    rw [p2_p2]; exact (equiv_iff.mp Idealize.SL.BI.emp_sep).symm
  · show _ = iprop(ownX (p1 (p1 c)) (dstM j) ∗ emp)
    rw [p1_p1]; exact (equiv_iff.mp Idealize.SL.BI.sep_emp).symm

end Sched

/-! ## What a device owes -/

/-- The credit of the copy at place `p` of the order. -/
def oweOf (c : Dev nD) (p : Fin 24) : CellTallies nD τ sig Unit := tallyAt (recvCell (peer (sOrd p) c) (sOrd p)) () N
/-- After `k` copies: the credits of the others. -/
def owe (c : Dev nD) (k : ℕ) : CellTallies nD τ sig Unit := ∑ p ∈ Finset.univ.filter (fun p : Fin 24 => k ≤ p.val), oweOf c p

theorem owe_step (c : Dev nD) (k : ℕ) (hk : k < 24) : owe c k = owe c (k + 1) + oweOf c ⟨k, hk⟩ := by
  unfold owe
  have : Finset.univ.filter (fun p : Fin 24 => k ≤ p.val) = insert ⟨k, hk⟩ (Finset.univ.filter (fun p : Fin 24 => k + 1 ≤ p.val)) := by
    ext p; simp only [Finset.mem_filter, Finset.mem_univ, true_and, Finset.mem_insert, Fin.ext_iff]; omega
  rw [this, Finset.sum_insert (by simp), add_comm]

theorem owe_end (c : Dev nD) : owe c 24 = 0 := by
  unfold owe
  rw [Finset.filter_false_of_mem fun p _ => by have := p.isLt; omega, Finset.sum_empty]

/-- At the launch: a unit to each neighbour's barrier cell as well. -/
def owe₁ (c : Dev nD) : CellTallies nD τ sig Unit := owe c 0 + tallyAt (barCell (p2 c)) () 1
def owe₀ (c : Dev nD) : CellTallies nD τ sig Unit := owe₁ c + tallyAt (barCell (p1 c)) () 1

def L (g : GSem nD τ sig) : Finset Unit := if g.1.2 = .tc then {()} else ∅
def lv (g : GSem nD τ sig) (_ : Unit) : ℕ := match role g.2 with | .bar => 1 | .recv j => (sPos j).val + 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [role_bar]
theorem lv_recv (c : Dev nD) (j : Fin 24) : lv (recvCell c j) () = (sPos j).val + 2 := by dsimp only [lv]; rw [role_recv]
theorem lv_send (c : Dev nD) (j : Fin 24) : lv (sendCell c j) () = 0 := by dsimp only [lv]; rw [role_send]

theorem owe_pos {c : Dev nD} {k : ℕ} {g : GSem nD τ sig} {u : Unit} (h : 0 < owe c k g u) :
    ∃ p : Fin 24, k ≤ p.val ∧ g = recvCell (peer (sOrd p) c) (sOrd p) := by
  by_contra hn
  have hz : owe c k g u = 0 := by
    unfold owe
    rw [Finset.sum_apply, Finsupp.finset_sum_apply]
    refine Finset.sum_eq_zero fun p hp => ?_
    unfold oweOf
    rw [tallyAt_apply, if_neg]
    exact fun h' => hn ⟨p, (Finset.mem_filter.mp hp).2, h'.1⟩
  omega

theorem owe₀_pos {c : Dev nD} {g : GSem nD τ sig} {u : Unit} (h : 0 < owe₀ c g u) :
    (∃ p : Fin 24, g = recvCell (peer (sOrd p) c) (sOrd p)) ∨ g = barCell (p2 c) ∨ g = barCell (p1 c) := by
  unfold owe₀ owe₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨p, -, hp⟩ := owe_pos (c := c) (k := 0) (g := g) (u := u) (by omega)
  exact hn.1 ⟨p, hp⟩

/-- A wait at level below every copy not yet started. -/
theorem mayWait_of (c : Dev nD) (sm : SemLoc sig) (k : ℕ) (h : lv ((c : Thread nD τ), sm) () < k + 2) :
    (levAts L lv : sProp 𝕄) ⊢ MayWait (c : Thread nD τ) sm () (owe c k) :=
  MayOwe.of_cut (L := L) (lev := lv) (lv ((c : Thread nD τ), sm) ()) (fun p hp => by rw [Finset.mem_singleton.mp hp, L_tc]; exact Finset.mem_singleton_self _)
    (fun g u hg => by obtain ⟨p, -, rfl⟩ := owe_pos hg; exact Finset.mem_singleton_self _)
    (fun p hp => by rw [Finset.mem_singleton.mp hp])
    (fun g u hg => by
      obtain ⟨p, hp, rfl⟩ := owe_pos hg
      show _ < lv (recvCell _ _) ()
      rw [lv_recv, sPos_sOrd]; omega)

theorem mayWait_bar (c : Dev nD) : (levAts L lv : sProp 𝕄) ⊢ MayWait (c : Thread nD τ) (.reg barS) () (owe c 0) :=
  mayWait_of c _ 0 (by rw [lv_bar]; decide)
theorem mayWait_send (c : Dev nD) (j : Fin 24) (k : ℕ) : (levAts L lv : sProp 𝕄) ⊢ MayWait (c : Thread nD τ) (.dma (sendS j)) () (owe c k) :=
  mayWait_of c _ k (by rw [lv_send]; omega)
theorem mayWait_recv (c : Dev nD) (j : Fin 24) (k : ℕ) (h : (sPos j).val < k) :
    (levAts L lv : sProp 𝕄) ⊢ MayWait (c : Thread nD τ) (.dma (recvS j)) () (owe c k) :=
  mayWait_of c _ k (by rw [lv_recv]; omega)

/-- The waits of the staging semaphores. -/
theorem mayWait_stage (c : Dev nD) (q : DmaSem sig) (hq : q.val < 3) (O : CellTallies nD τ sig Unit) (hO : O = owe₀ c ∨ O = 0) :
    (levAts L lv : sProp 𝕄) ⊢ MayWait (c : Thread nD τ) (.dma q) () O := by
  have hr : role (.dma q) = .other := dif_pos hq
  rcases hO with rfl | rfl
  · refine MayOwe.of_cut (L := L) (lev := lv) 0 (fun p hp => by rw [Finset.mem_singleton.mp hp, L_tc]; exact Finset.mem_singleton_self _)
      (fun g u hg => by rcases owe₀_pos hg with ⟨p, rfl⟩ | rfl | rfl <;> exact Finset.mem_singleton_self _)
      (fun p hp => by rw [Finset.mem_singleton.mp hp]; dsimp only [lv]; rw [hr])
      (fun g u hg => by
        rcases owe₀_pos hg with ⟨p, rfl⟩ | rfl | rfl
        · show _ < lv (recvCell _ _) (); rw [lv_recv]; omega
        · show _ < lv (barCell _) (); rw [lv_bar]; decide
        · show _ < lv (barCell _) (); rw [lv_bar]; decide)
  · rw [MayWait_zero]; iintro -; iempintro

/-! ## The cells and their records -/

/-- The semaphores of a device: the barrier and the 48 of the copies. -/
abbrev osem : Fin 48 → SemLoc sig := fun i => .dma (dsem i)
abbrev csem : Option (Fin 48) → SemLoc sig
  | none => .reg barS
  | some i => .dma (dsem i)
abbrev kcell (ck : Dev nD × Option (Fin 48)) : GSem nD τ sig := ((ck.1 : Thread nD τ), csem ck.2)

/-- All cells follow the schedule, and have reached their round. -/
def Recs (K : Dev nD × Option (Fin 48) → ℕ) : sProp 𝕄 :=
  bigSep Finset.univ fun ck => iprop(cellInv ER (Rd m) (K ck) (kcell ck) ∗ reached ER (kcell ck) 0)

instance Recs_persistent (K : Dev nD × Option (Fin 48) → ℕ) : BI.Persistent (Recs m K) := by unfold Recs; infer_instance

theorem Recs_at (K : Dev nD × Option (Fin 48) → ℕ) (ck : Dev nD × Option (Fin 48)) :
    Recs m K ⊢ iprop(cellInv ER (Rd m) (K ck) (kcell ck) ∗ reached ER (kcell ck) 0) := by
  unfold Recs; exact bigSep_elim (Finset.mem_univ ck)

end Cert.Ring

end

end
-- ==== Proof.State.lean ====
/-
# The state of a device between two operations

Everything a device holds while the kernel runs, as one assertion with nine counters: how many halves of the product, of
the partial sums, of its finished columns and of its result's tiles are stored, how many copies are ready to start, are
started, are known complete at the source, have been waited for at the destination. The steps below move one entry.
-/
module

public import proofs.«01_k».proof.Proof.Schedule

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Orders -/

/-- The column blocks of the product a device reads itself. -/
def zB (c : Dev nD) : Fin 4 → Fin 8 := ![qa c, qb c, qa (p2 c), qb (p1 c)]
/-- The order in which a device stores the tiles of its result: the half of the rows, -/
def oH : Fin 16 → Fin 2 := ![0, 0, 1, 1, 0, 0, 0, 0, 0, 0, 1, 1, 1, 1, 1, 1]
/-- and the column block. -/
def oB (c : Dev nD) : Fin 16 → Fin 8 :=
  ![qa c, qb c, qa c, qb c, qa (p2 c), qb (p1 c), qa (p1 c), qb (p2 c), qa (dg c), qb (dg c),
    qa (p2 c), qb (p1 c), qa (p1 c), qb (p2 c), qa (dg c), qb (dg c)]
set_option backward.proofsInPublic true in
/-- The place of a partial sum's copy in the order of the copies. -/
def sbP (n : Fin 4) : Fin 24 := ⟨8 + n.val, by omega⟩
set_option backward.proofsInPublic true in
/-- The half of the rows and the block of the finished columns stored at step `n`. -/
def agH (n : Fin 4) : Fin 2 := ⟨n.val / 2, by omega⟩
set_option backward.proofsInPublic true in
def agB (n : Fin 4) : Fin 2 := ⟨n.val % 2, by omega⟩

/-! ## The entries -/

/-- What starting copy `j` takes besides its source: the position and the duties of its cells, and the slot. -/
def sPre (c : Dev nD) (j : Fin 24) : sProp 𝕄 :=
  iprop(atPos ER (sendCell c j) 0 ∅ 0 ∗ dutyTok ER (sendCell c j) 0 false ∗ dutyTok ER (recvCell (peer j c) j) 0 false ∗ ownX (peer j c) (dstM j))
def sFly (c : Dev nD) (j : Fin 24) : sProp 𝕄 := iprop(atPos ER (sendCell c j) 0 ∅ 0 ∗ cred (tallyAt (sendCell c j) () N))
def sDone (c : Dev nD) (j : Fin 24) : sProp 𝕄 := iprop(semVal (sendCell c j) 0 ∗ sendPay m c j)
def rWait (c : Dev nD) (j : Fin 24) : sProp 𝕄 := iprop(atPos ER (recvCell c j) 0 ∅ 0 ∗ cred (tallyAt (recvCell c j) () N))
def rDone (c : Dev nD) (j : Fin 24) : sProp 𝕄 := iprop(semVal (recvCell c j) 0 ∗ own c (dstM j) (lndQ j) (lv' m c j))

def sAt (c : Dev nD) (r k t : ℕ) (p : Fin 24) : sProp 𝕄 :=
  if p.val < t then sDone m c (sOrd p)
  else if p.val < k then sFly c (sOrd p)
  else if p.val < r then iprop(sPre c (sOrd p) ∗ sendPay m c (sOrd p))
  else sPre c (sOrd p)
def rAt (c : Dev nD) (w : ℕ) (p : Fin 24) : sProp 𝕄 := if p.val < w then rDone m c (rOrd p) else rWait c (rOrd p)

def zTiles (c : Dev nD) (h : Fin 2) : sProp 𝕄 := bigSep Finset.univ fun i : Fin 4 => own c (ztM h (zB c i)) fullShare (zt m c h (zB c i))
def zAt (c : Dev nD) (z : ℕ) (h : Fin 2) : sProp 𝕄 := if h.val < z then zTiles m c h else ownX c (rowM h)
def sbAt (c : Dev nD) (s : ℕ) (n : Fin 4) : sProp 𝕄 := if n.val < s then iprop(emp) else ownX c (srcM c (sOrd (sbP n)))
def agAt (c : Dev nD) (g : ℕ) (n : Fin 4) : sProp 𝕄 := if n.val < g then iprop(emp) else ownX c (agtM (agH n) (agB n))
def oAt (c : Dev nD) (o : ℕ) (n : Fin 16) : sProp 𝕄 :=
  if n.val < o then own c (otM (oH n) (oB c n)) fullShare (ov m c (oH n) (oB c n)) else ownX c (otM (oH n) (oB c n))

/-- The staged argument blocks and the block of `B` in the short format. -/
def args (c : Dev nD) : sProp 𝕄 :=
  iprop((((c : Thread nD τ).loc cc0_stg0_0) ↦{fullShare} aStg m c) ∗ (((c : Thread nD τ).loc cc0_stg1_0) ↦{fullShare} bStg m c)
    ∗ own c bbM fullShare (bbv m c))

def owesK (c : Dev nD) (k : ℕ) : sProp 𝕄 := iprop(∃ W, owes (c : Thread nD τ) (owe c k) W)

variable (K : Dev nD × Option (Fin 48) → ℕ)

/-- The state: `z` halves of the product, `s` partial sums, `g` finished blocks and `o` tiles of the result stored; `r`
    copies ready, `k` started, `t` complete at the source; `w` waited for at the destination. -/
def St (c : Dev nD) (z s g o r k t w : ℕ) : sProp 𝕄 :=
  iprop(Recs m K ∗ levAts L lv ∗ owesK c k ∗ bigSep Finset.univ (sAt m c r k t) ∗ bigSep Finset.univ (rAt m c w)
    ∗ bigSep Finset.univ (zAt m c z) ∗ bigSep Finset.univ (sbAt c s) ∗ bigSep Finset.univ (agAt c g) ∗ bigSep Finset.univ (oAt m c o) ∗ args m c)

/-! ## Moving one entry -/

/-- Two families that differ in one entry. -/
theorem swap {n : ℕ} (f g : Fin n → sProp 𝕄) (i : Fin n) (h : ∀ j, j ≠ i → f j = g j) :
    bigSep Finset.univ f ⊢ iprop(f i ∗ (g i -∗ bigSep Finset.univ g)) := by
  have e1 : bigSep Finset.univ f = iprop(f i ∗ bigSep (Finset.univ.erase i) g) := by
    rw [bigSep_univ_split i, bigSep_congr (fun j hj => h j (Finset.ne_of_mem_erase hj))]; rfl
  have e2 : bigSep Finset.univ g = iprop(g i ∗ bigSep (Finset.univ.erase i) g) := bigSep_univ_split i
  rw [e1, e2]
  iintro ⟨HA, HB⟩
  isplitl [HA]; · iexact HA
  iintro HC
  isplitl [HC] <;> iassumption

section Moves
variable (c : Dev nD)

theorem sAt_send (r k t : ℕ) (hk : k < 24) (hr : k < r) (ht : t ≤ k) :
    bigSep Finset.univ (sAt m c r k t)
      ⊢ iprop((sPre c (sOrd ⟨k, hk⟩) ∗ sendPay m c (sOrd ⟨k, hk⟩)) ∗ (sFly c (sOrd ⟨k, hk⟩) -∗ bigSep Finset.univ (sAt m c r (k + 1) t))) := by
  have h := swap (sAt m c r k t) (sAt m c r (k + 1) t) ⟨k, hk⟩ (fun j hj => by
    have : j.val ≠ k := fun e => hj (Fin.ext e)
    have e : j.val < k + 1 ↔ j.val < k := by omega
    unfold sAt; simp only [e])
  have e1 : sAt m c r k t ⟨k, hk⟩ = iprop(sPre c (sOrd ⟨k, hk⟩) ∗ sendPay m c (sOrd ⟨k, hk⟩)) := by
    unfold sAt; rw [if_neg (by show ¬ k < t; omega), if_neg (by show ¬ k < k; omega), if_pos (by exact hr)]
  have e2 : sAt m c r (k + 1) t ⟨k, hk⟩ = sFly c (sOrd ⟨k, hk⟩) := by
    unfold sAt; rw [if_neg (by show ¬ k < t; omega), if_pos (by show k < k + 1; omega)]
  rw [e1, e2] at h; exact h

theorem sAt_ready (r k t : ℕ) (hr : r < 24) (hk : k ≤ r) (ht : t ≤ k) :
    iprop(bigSep Finset.univ (sAt m c r k t) ∗ sendPay m c (sOrd ⟨r, hr⟩)) ⊢ bigSep Finset.univ (sAt m c (r + 1) k t) := by
  have h := swap (sAt m c r k t) (sAt m c (r + 1) k t) ⟨r, hr⟩ (fun j hj => by
    have : j.val ≠ r := fun e => hj (Fin.ext e)
    have e : j.val < r + 1 ↔ j.val < r := by omega
    unfold sAt; simp only [e])
  have e1 : sAt m c r k t ⟨r, hr⟩ = sPre c (sOrd ⟨r, hr⟩) := by
    unfold sAt; rw [if_neg (by show ¬ r < t; omega), if_neg (by show ¬ r < k; omega), if_neg (by show ¬ r < r; omega)]
  have e2 : sAt m c (r + 1) k t ⟨r, hr⟩ = iprop(sPre c (sOrd ⟨r, hr⟩) ∗ sendPay m c (sOrd ⟨r, hr⟩)) := by
    unfold sAt; rw [if_neg (by show ¬ r < t; omega), if_neg (by show ¬ r < k; omega), if_pos (by show r < r + 1; omega)]
  rw [e1, e2] at h
  iintro ⟨H, Hs⟩
  ihave H' := h $$ H
  icases H' with ⟨Hp, Hb⟩
  iapply Hb
  isplitl [Hp] <;> iassumption

theorem sAt_wait (r k t : ℕ) (ht : t < 24) (hk : t < k) :
    bigSep Finset.univ (sAt m c r k t)
      ⊢ iprop(sFly c (sOrd ⟨t, ht⟩) ∗ (sDone m c (sOrd ⟨t, ht⟩) -∗ bigSep Finset.univ (sAt m c r k (t + 1)))) := by
  have h := swap (sAt m c r k t) (sAt m c r k (t + 1)) ⟨t, ht⟩ (fun j hj => by
    have : j.val ≠ t := fun e => hj (Fin.ext e)
    have e : j.val < t + 1 ↔ j.val < t := by omega
    unfold sAt; simp only [e])
  have e1 : sAt m c r k t ⟨t, ht⟩ = sFly c (sOrd ⟨t, ht⟩) := by
    unfold sAt; rw [if_neg (by show ¬ t < t; omega), if_pos (by exact hk)]
  have e2 : sAt m c r k (t + 1) ⟨t, ht⟩ = sDone m c (sOrd ⟨t, ht⟩) := by
    unfold sAt; rw [if_pos (by show t < t + 1; omega)]
  rw [e1, e2] at h; exact h

theorem rAt_wait (w : ℕ) (hw : w < 24) :
    bigSep Finset.univ (rAt m c w)
      ⊢ iprop(rWait c (rOrd ⟨w, hw⟩) ∗ (rDone m c (rOrd ⟨w, hw⟩) -∗ bigSep Finset.univ (rAt m c (w + 1)))) := by
  have h := swap (rAt m c w) (rAt m c (w + 1)) ⟨w, hw⟩ (fun j hj => by
    have : j.val ≠ w := fun e => hj (Fin.ext e)
    have e : j.val < w + 1 ↔ j.val < w := by omega
    unfold rAt; simp only [e])
  have e1 : rAt m c w ⟨w, hw⟩ = rWait c (rOrd ⟨w, hw⟩) := by unfold rAt; rw [if_neg (by show ¬ w < w; omega)]
  have e2 : rAt m c (w + 1) ⟨w, hw⟩ = rDone m c (rOrd ⟨w, hw⟩) := by unfold rAt; rw [if_pos (by show w < w + 1; omega)]
  rw [e1, e2] at h; exact h

/-- A landed piece, read. -/
theorem rAt_read (w : ℕ) (p : Fin 24) (hp : p.val < w) :
    bigSep Finset.univ (rAt m c w)
      ⊢ iprop(own c (dstM (rOrd p)) (lndQ (rOrd p)) (lv' m c (rOrd p)) ∗ (own c (dstM (rOrd p)) (lndQ (rOrd p)) (lv' m c (rOrd p)) -∗ bigSep Finset.univ (rAt m c w))) := by
  have h := swap (rAt m c w) (rAt m c w) p (fun _ _ => rfl)
  have e1 : rAt m c w p = rDone m c (rOrd p) := by unfold rAt; rw [if_pos hp]
  rw [e1] at h
  unfold rDone at h
  iintro H
  ihave H' := h $$ H
  icases H' with ⟨⟨Hs, Hp⟩, Hb⟩
  isplitl [Hp]; · iexact Hp
  iintro Hp
  iapply Hb
  isplitl [Hs] <;> iassumption

theorem zAt_store (h : Fin 2) :
    bigSep Finset.univ (zAt m c h.val) ⊢ iprop(ownX c (rowM h) ∗ (zTiles m c h -∗ bigSep Finset.univ (zAt m c (h.val + 1)))) := by
  have hh := swap (zAt m c h.val) (zAt m c (h.val + 1)) h (fun j hj => by
    have : j.val ≠ h.val := fun e => hj (Fin.ext e)
    have e : j.val < h.val + 1 ↔ j.val < h.val := by omega
    unfold zAt; simp only [e])
  have e1 : zAt m c h.val h = ownX c (rowM h) := by unfold zAt; rw [if_neg (by omega)]
  have e2 : zAt m c (h.val + 1) h = zTiles m c h := by unfold zAt; rw [if_pos (by omega)]
  rw [e1, e2] at hh; exact hh

/-- A tile of the product, read. -/
theorem zAt_read (z : ℕ) (h : Fin 2) (i : Fin 4) (hz : h.val < z) :
    bigSep Finset.univ (zAt m c z) ⊢ iprop(own c (ztM h (zB c i)) fullShare (zt m c h (zB c i))
      ∗ (own c (ztM h (zB c i)) fullShare (zt m c h (zB c i)) -∗ bigSep Finset.univ (zAt m c z))) := by
  have hh := swap (zAt m c z) (zAt m c z) h (fun _ _ => rfl)
  have e1 : zAt m c z h = zTiles m c h := by unfold zAt; rw [if_pos hz]
  rw [e1] at hh
  have hi := swap (fun i : Fin 4 => own c (ztM h (zB c i)) fullShare (zt m c h (zB c i))) (fun i : Fin 4 => own c (ztM h (zB c i)) fullShare (zt m c h (zB c i))) i (fun _ _ => rfl)
  iintro H
  ihave H' := hh $$ H
  icases H' with ⟨Ht, Hb⟩
  unfold zTiles
  ihave Ht' := hi $$ Ht
  icases Ht' with ⟨Hp, Hc⟩
  isplitl [Hp]; · iexact Hp
  iintro Hp
  iapply Hb
  iapply Hc
  iexact Hp

theorem sbAt_store (n : Fin 4) :
    bigSep Finset.univ (sbAt (F := F) c n.val) ⊢ iprop(ownX c (srcM c (sOrd (sbP n))) ∗ bigSep Finset.univ (sbAt c (n.val + 1))) := by
  have hh := swap (sbAt (F := F) c n.val) (sbAt c (n.val + 1)) n (fun j hj => by
    have : j.val ≠ n.val := fun e => hj (Fin.ext e)
    have e : j.val < n.val + 1 ↔ j.val < n.val := by omega
    unfold sbAt; simp only [e])
  have e1 : sbAt (F := F) c n.val n = ownX c (srcM c (sOrd (sbP n))) := by unfold sbAt; rw [if_neg (by omega)]
  have e2 : sbAt (F := F) c (n.val + 1) n = iprop(emp) := by unfold sbAt; rw [if_pos (by omega)]
  rw [e1, e2] at hh
  iintro H
  ihave H' := hh $$ H
  icases H' with ⟨Ht, Hb⟩
  isplitl [Ht]; · iexact Ht
  iapply Hb
  iempintro

theorem agAt_store (n : Fin 4) :
    bigSep Finset.univ (agAt (F := F) c n.val) ⊢ iprop(ownX c (agtM (agH n) (agB n)) ∗ bigSep Finset.univ (agAt c (n.val + 1))) := by
  have hh := swap (agAt (F := F) c n.val) (agAt c (n.val + 1)) n (fun j hj => by
    have : j.val ≠ n.val := fun e => hj (Fin.ext e)
    have e : j.val < n.val + 1 ↔ j.val < n.val := by omega
    unfold agAt; simp only [e])
  have e1 : agAt (F := F) c n.val n = ownX c (agtM (agH n) (agB n)) := by unfold agAt; rw [if_neg (by omega)]
  have e2 : agAt (F := F) c (n.val + 1) n = iprop(emp) := by unfold agAt; rw [if_pos (by omega)]
  rw [e1, e2] at hh
  iintro H
  ihave H' := hh $$ H
  icases H' with ⟨Ht, Hb⟩
  isplitl [Ht]; · iexact Ht
  iapply Hb
  iempintro

theorem oAt_store (n : Fin 16) :
    bigSep Finset.univ (oAt m c n.val) ⊢ iprop(ownX c (otM (oH n) (oB c n))
      ∗ (own c (otM (oH n) (oB c n)) fullShare (ov m c (oH n) (oB c n)) -∗ bigSep Finset.univ (oAt m c (n.val + 1)))) := by
  have hh := swap (oAt m c n.val) (oAt m c (n.val + 1)) n (fun j hj => by
    have : j.val ≠ n.val := fun e => hj (Fin.ext e)
    have e : j.val < n.val + 1 ↔ j.val < n.val := by omega
    unfold oAt; simp only [e])
  have e1 : oAt m c n.val n = ownX c (otM (oH n) (oB c n)) := by unfold oAt; rw [if_neg (by omega)]
  have e2 : oAt m c (n.val + 1) n = own c (otM (oH n) (oB c n)) fullShare (ov m c (oH n) (oB c n)) := by unfold oAt; rw [if_pos (by omega)]
  rw [e1, e2] at hh; exact hh

/-! ## A half of the product, as its tiles -/

/-- The blocks of the product that are sent, in the order of their copies. -/
def zS (c : Dev nD) : Fin 4 → Fin 8 := ![qa (dg c), qb (dg c), qa (p1 c), qb (p2 c)]
theorem zAll_bij (c : Dev nD) : Function.Bijective (Sum.elim (zB c) (zS c)) := by
  have h : ∀ c : Dev nD, ∀ x y : Fin 4 ⊕ Fin 4, Sum.elim (zB c) (zS c) x = Sum.elim (zB c) (zS c) y → x = y := by decide +kernel
  exact (Fintype.bijective_iff_injective_and_card _).mpr ⟨fun x y => h c x y, by decide⟩

set_option backward.proofsInPublic true in
/-- The place of the `i`-th piece of half `h` in the order of the copies. -/
def zP (h : Fin 2) (i : Fin 4) : Fin 24 := ⟨4 * h.val + i.val, by omega⟩

theorem zrow_split (h : Fin 2) :
    own c (rowM h) fullShare (zrow m c h) = iprop(zTiles m c h ∗ bigSep Finset.univ fun i : Fin 4 => sendPay m c (sOrd (zP h i))) := by
  have hset : ∀ b : Fin 8, (ztM h b).view.set = (tileR (nb := 8) h b).set := fun b => View.set_slice_whole cc0_scratch0 _
  have hsetR : (rowM h).view.set = (rowR h).set := View.set_slice_whole cc0_scratch0 _
  have key : ∀ (b : Fin 8) (f : Buf (Elt F) ((ztM h b).view.loc (c : Thread nD τ))),
      ((ztM h b).view.loc (c : Thread nD τ) ↦[(tileR (nb := 8) h b).set]{fullShare} f : sProp 𝕄)
        = own c (ztM h b) fullShare ((ztM h b).view.read (Elt F) f) := fun b f => by
    rw [← hset b]; exact own_of_read c (ztM h b) fullShare _ f rfl
  have e0 : own c (rowM h) fullShare (zrow m c h)
      = ((rowM h).view.loc (c : Thread nD τ) ↦[(rowR h).set]{fullShare} (rowM h).view.rep (zrow m c h)) := by
    unfold own; rw [hsetR]
  have e1 : own c (rowM h) fullShare (zrow m c h) = bigSep Finset.univ fun b : Fin 8 => own c (ztM h b) fullShare (zt m c h b) := by
    rw [e0]
    let I : Fin 8 → Finset (Idx ((rowM h).view.loc (c : Thread nD τ))) := fun b => (tileR (nb := 8) h b).set
    have hd : ∀ b b', b ≠ b' → Disjoint (I b) (I b') := fun b b' hb =>
      tile_disjoint (nb := 8) (p := (h, b)) (p' := (h, b')) (fun e => hb (congrArg Prod.snd e))
    have hS : Finset.univ.biUnion I = (rowR h).set := row_tiles h
    have e3 := Ring.pointsTo_sub_blocks (Ix := Unit) (Name := ℕ) (U := UU) (Lvl := ℕ) I hd (rowR h).set hS (q := fullShare) ((rowM h).view.rep (zrow m c h))
    rw [e3]
    exact bigSep_congr fun b _ => key b _
  rw [e1, bigSep_univ_equiv (Equiv.ofBijective _ (zAll_bij c)), bigSep_univ_sum]
  have e2 : ∀ i : Fin 4, sendPay m c (sOrd (zP h i)) = own c (ztM h (zS c i)) fullShare (zt m c h (zS c i)) := fun i => by
    fin_cases h <;> fin_cases i <;> rfl
  rw [bigSep_congr fun i _ => e2 i]
  rfl

end Moves

end Cert.Ring

end

end
-- ==== Proof.Pieces.lean ====
/-
# Buffers and their pieces

A buffer held at some contents is its pieces held at some contents, for each family of pieces that the kernel uses.
-/
module

public import proofs.«01_k».proof.Proof.State

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer and its pieces -/

section Generic

variable {s : Shape} {e : EltTy} (c : Dev nD)

/-- A squeezed piece is the piece. -/
theorem ownX_squeeze (M : Memref sig .tc .vmem s e) (s' : Shape) (hq : s.Squeezes s') : ownX (F := F) c (M.squeeze s' hq) = ownX c M := by
  have hset : (M.squeeze s' hq).view.set = M.view.set := View.set_reshape (v := M.view) hq.numel_eq
  unfold ownX
  show iprop(∃ f : Buf (Elt F) (M.view.loc (c : Thread nD τ)), M.view.loc (c : Thread nD τ) ↦[(M.squeeze s' hq).view.set]{fullShare} f) = _
  rw [hset]

/-- A buffer held at some contents is its blocks, each held at some contents. -/
theorem ownX_blocks {B : Type} [Fintype B] [DecidableEq B] (M : Memref sig .tc .vmem s e) (R : B → Rect s) (hR : ∀ b a, (R b).stride a = 1)
    (hd : ∀ b b', b ≠ b' → Disjoint (R b).set (R b').set) (hc : Finset.univ.biUnion (fun b => (R b).set) = Finset.univ) :
    ownX (F := F) c M ⊣⊢ bigSep Finset.univ fun b => ownX c (M.slice (R b) (hR b)) := by
  let I : B → Finset (Idx (M.view.loc (c : Thread nD τ))) := fun b => (M.slice (R b) (hR b)).view.set
  have hI : ∀ b, I b = (R b).set.map M.view.emb := fun b => View.set_slice M.view (R b)
  have hdI : ∀ b b', b ≠ b' → Disjoint (I b) (I b') := fun b b' h => by
    rw [hI, hI]; exact (Finset.disjoint_map _).mpr (hd b b' h)
  have hS : Finset.univ.biUnion I = M.view.set := by
    ext i
    simp only [Finset.mem_biUnion, Finset.mem_univ, true_and, hI, Finset.mem_map]
    constructor
    · rintro ⟨b, x, -, rfl⟩; exact Finset.mem_map.mpr ⟨x, Finset.mem_univ _, rfl⟩
    · intro hi
      obtain ⟨x, -, rfl⟩ := Finset.mem_map.mp hi
      have hx : x ∈ Finset.univ.biUnion (fun b => (R b).set) := by rw [hc]; exact Finset.mem_univ _
      obtain ⟨b, -, hb⟩ := Finset.mem_biUnion.mp hx
      exact ⟨b, x, hb, rfl⟩
  constructor
  · unfold ownX
    iintro ⟨%f, H⟩
    ihave H' := (Entails.of_eq (Ring.pointsTo_sub_blocks (Ix := Unit) (Name := ℕ) (U := UU) (Lvl := ℕ) I hdI M.view.set hS (q := fullShare) f)) $$ H
    have h1 : ∀ b, (M.view.loc (c : Thread nD τ) ↦[I b]{fullShare} f : sProp 𝕄)
        ⊢ iprop(∃ f : Buf (Elt F) (M.view.loc (c : Thread nD τ)), M.view.loc (c : Thread nD τ) ↦[I b]{fullShare} f) := fun b => by
      iintro H; iexists f; iexact H
    have hm : (bigSep Finset.univ fun b => (M.view.loc (c : Thread nD τ) ↦[I b]{fullShare} f : sProp 𝕄))
        ⊢ bigSep Finset.univ fun b => iprop(∃ f : Buf (Elt F) (M.view.loc (c : Thread nD τ)), M.view.loc (c : Thread nD τ) ↦[I b]{fullShare} f) :=
      bigSep_mono fun b _ => h1 b
    ihave H'' := hm $$ H'
    iexact H''
  · exact Ring.pointsTo_sub_blocks_join_exists (Ix := Unit) (Name := ℕ) (U := UU) (Lvl := ℕ) I hdI M.view.set hS (q := fullShare)
      (fun _ => Classical.choice inferInstance)

/-- A buffer of slots and its slots. -/
theorem ownX_slots {n : ℕ} (M : Memref sig .tc .vmem (⟨3, ![n, 1024, 128]⟩ : Shape) .bf16) :
    ownX (F := F) c M ⊣⊢ bigSep Finset.univ fun p : Fin n × Fin 2 => ownX c (slotM M p.1 p.2) := by
  rw [bigSep_congr fun (p : Fin n × Fin 2) _ => ownX_squeeze c (M.slice (slotR p.1 p.2) (fun _ => rfl)) S512x128 squeezes_S1x512x128_S512x128]
  exact ownX_blocks c M (fun p : Fin n × Fin 2 => slotR p.1 p.2) (fun _ _ => rfl) (fun p p' h => slot_disjoint h) (slot_cover n)

/-- An array of tiles and its tiles. -/
theorem ownX_tiles {nb : ℕ} {e : EltTy} (M : Memref sig .tc .vmem (⟨2, ![1024, 128 * nb]⟩ : Shape) e) :
    ownX (F := F) c M ⊣⊢ bigSep Finset.univ fun p : Fin 2 × Fin nb => ownX c (tileM M p.1 p.2) :=
  ownX_blocks c M (fun p : Fin 2 × Fin nb => tileR p.1 p.2) (fun _ _ => rfl) (fun p p' h => tile_disjoint h) (tile_cover nb)

/-- The product's buffer and its two halves. -/
theorem ownX_rows : ownX (F := F) c zM ⊣⊢ bigSep Finset.univ fun h : Fin 2 => ownX c (rowM h) :=
  ownX_blocks c zM rowR (fun _ _ => rfl) (fun p p' h => row_disjoint h) row_cover

end Generic

/-- A whole buffer held at some contents. -/
theorem ownX_whole (c : Dev nD) {s : Shape} {e : EltTy} (M : Memref sig .tc .vmem s e) (h : M.view.set = Finset.univ) :
    ownX (F := F) c M = iprop(∃ f : Buf (Elt F) (M.view.loc (c : Thread nD τ)), M.view.loc (c : Thread nD τ) ↦{fullShare} f) := by
  unfold ownX; rw [h]

/-! ## The landing slots by buffer -/

/-- The edges by the buffer they land in. -/
def byBuf : Fin 4 ⊕ (Fin 2 ⊕ Fin 6) → Fin 12 := Sum.elim ![0, 1, 2, 3] (Sum.elim ![4, 5] ![6, 7, 8, 10, 9, 11])
theorem byBuf_bij : Function.Bijective byBuf := by decide

set_option backward.proofsInPublic true in
/-- The copy that lands in a slot. -/
def copyOf (p : (Fin 4 × Fin 2) ⊕ ((Fin 2 × Fin 2) ⊕ (Fin 6 × Fin 2))) : Fin 24 :=
  match p with
  | .inl q => ⟨2 * (byBuf (.inl q.1)).val + q.2.val, by omega⟩
  | .inr (.inl q) => ⟨2 * (byBuf (.inr (.inl q.1))).val + q.2.val, by omega⟩
  | .inr (.inr q) => ⟨2 * (byBuf (.inr (.inr q.1))).val + q.2.val, by omega⟩
theorem copyOf_bij : Function.Bijective copyOf := by
  have h : ∀ x y, copyOf x = copyOf y → x = y := by decide +kernel
  exact (Fintype.bijective_iff_injective_and_card _).mpr ⟨fun x y => h x y, by decide⟩

/-- A family over the copies is a family over the halves and the edges. -/
theorem copies_eq (Φ : Fin 24 → sProp 𝕄) (Ψ : Fin 12 → Fin 2 → sProp 𝕄) (h : ∀ j, Φ j = Ψ (edg j) (hlf j)) :
    bigSep Finset.univ Φ = bigSep Finset.univ fun h : Fin 2 => bigSep Finset.univ fun e : Fin 12 => Ψ e h := by
  have hb : Function.Bijective (fun p : Fin 2 × Fin 12 => (⟨2 * p.2.val + p.1.val, by have := p.1.isLt; have := p.2.isLt; omega⟩ : Fin 24)) := by decide +kernel
  rw [bigSep_univ_equiv (Equiv.ofBijective _ hb), ← bigSep_univ_prod (fun p : Fin 2 × Fin 12 => Ψ p.2 p.1)]
  refine bigSep_congr fun p _ => ?_
  have h1 : ∀ p : Fin 2 × Fin 12, edg (⟨2 * p.2.val + p.1.val, by have := p.1.isLt; have := p.2.isLt; omega⟩ : Fin 24) = p.2
      ∧ hlf (⟨2 * p.2.val + p.1.val, by have := p.1.isLt; have := p.2.isLt; omega⟩ : Fin 24) = p.1 := by decide +kernel
  have e := h (⟨2 * p.2.val + p.1.val, by have := p.1.isLt; have := p.2.isLt; omega⟩ : Fin 24)
  rw [(h1 p).1, (h1 p).2] at e
  exact e

/-- All landing slots are the three buffers of slots. -/
theorem slots_bufs (c : Dev nD) : (bigSep Finset.univ fun j : Fin 24 => ownX (F := F) c (dstM j)) ⊣⊢ iprop(ownX c r1M ∗ ownX c r2M ∗ ownX c alM) := by
  have e1 : (bigSep Finset.univ fun j : Fin 24 => ownX (F := F) c (dstM j))
      = iprop((bigSep Finset.univ fun p : Fin 4 × Fin 2 => ownX c (slotM (n := 4) r1M p.1 p.2)) ∗ (bigSep Finset.univ fun p : Fin 2 × Fin 2 => ownX c (slotM (n := 2) r2M p.1 p.2))
        ∗ bigSep Finset.univ fun p : Fin 6 × Fin 2 => ownX c (slotM (n := 6) alM p.1 p.2)) := by
    rw [bigSep_univ_equiv (Equiv.ofBijective _ copyOf_bij), bigSep_univ_sum, bigSep_univ_sum]
    have q1 : ∀ p : Fin 4 × Fin 2, ownX (F := F) c (dstM (Equiv.ofBijective _ copyOf_bij (.inl p))) = ownX c (slotM (n := 4) r1M p.1 p.2) := by
      rintro ⟨x, h⟩; fin_cases x <;> fin_cases h <;> rfl
    have q2 : ∀ p : Fin 2 × Fin 2, ownX (F := F) c (dstM (Equiv.ofBijective _ copyOf_bij (.inr (.inl p)))) = ownX c (slotM (n := 2) r2M p.1 p.2) := by
      rintro ⟨x, h⟩; fin_cases x <;> fin_cases h <;> rfl
    have q3 : ∀ p : Fin 6 × Fin 2, ownX (F := F) c (dstM (Equiv.ofBijective _ copyOf_bij (.inr (.inr p)))) = ownX c (slotM (n := 6) alM p.1 p.2) := by
      rintro ⟨x, h⟩; fin_cases x <;> fin_cases h <;> rfl
    rw [bigSep_congr fun p _ => q1 p, bigSep_congr fun p _ => q2 p, bigSep_congr fun p _ => q3 p]
    rfl
  rw [e1]
  constructor
  · exact BIClass.sep_mono (ownX_slots c r1M).2 (BIClass.sep_mono (ownX_slots c r2M).2 (ownX_slots c alM).2)
  · exact BIClass.sep_mono (ownX_slots c r1M).1 (BIClass.sep_mono (ownX_slots c r2M).1 (ownX_slots c alM).1)

end Cert.Ring

end

end
-- ==== Proof.Steps.lean ====
/-
# One operation, from state to state

For each kind of operation of the kernel, the rule that takes the state before it to the state after it.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-! ## Sequences -/

/-- A step and what follows it. -/
theorem chain {A B R X Y : sProp 𝕄} (h₁ : A ⊢ iprop((B -∗ X) -∗ Y)) (h₂ : B ⊢ iprop(R -∗ X)) : A ⊢ iprop(R -∗ Y) := by
  iintro HA HR
  iapply h₁ $$ HA
  iintro HB
  iapply h₂ $$ HB
  iexact HR

/-- Nothing more to do. -/
theorem done {α : Type} {Q : α → sProp 𝕄} {B : sProp 𝕄} {x : α} : B ⊢ iprop((B -∗ Q x) -∗ WP c (.ret x) Q) := by
  unfold WP
  rw [wp_ret]
  iintro HB Hk
  imodintro
  iapply Hk
  iexact HB

/-! ## Copies -/

/-- Copy `k` of the order is started. -/
theorem st_send {α : Type} {Q : α → sProp 𝕄} {z s g o r t w : ℕ} (k : ℕ) (hk : k < 24) (hr : k < r) (ht : t ≤ k)
    {src dst : Memref sig .tc .vmem S512x128 .bf16} {sS rS : DmaSem sig} {n : Dev nD}
    (hn : n = peer (sOrd ⟨k, hk⟩) c) (hs : src = srcM c (sOrd ⟨k, hk⟩)) (hd : dst = dstM (sOrd ⟨k, hk⟩))
    (hsS : sS = sendS (sOrd ⟨k, hk⟩)) (hrS : rS = recvS (sOrd ⟨k, hk⟩))
    {hsc} {hsrc : src.view.WordExact} {hdst : dst.view.WordExact}
    {hsem : DmaTarget.Typed .vmem (.dma rS) (.remote (Dev.tc n) dst (.dma sS) hsc)} {k' : PUnit → Prog (TpuEff nD τ sig (Elt F) Λ₀ .tc) α} :
    St m K c z s g o r k t w ⊢ iprop((St m K c z s g o r (k + 1) t w -∗ WP c (k' ⟨⟩) Q)
      -∗ WP c (.op (.enqueueDma src (.remote (Dev.tc n) dst (.dma sS) hsc) (.dma rS) hsrc hdst hsem) k') Q) := by
  subst hn hs hd hsS hrS
  generalize hj : sOrd ⟨k, hk⟩ = j at *
  have hmove := sAt_send m c r k t hk hr ht
  have howe : owe c k = owe c (k + 1) + tallyAt (recvCell (peer j c) j) () N := by
    rw [owe_step c k hk]; unfold oweOf; rw [hj]
  rw [hj] at hmove
  unfold St owesK
  iintro ⟨#HR, #HL, ⟨%W, HO⟩, HS, Hr, Hz, Hb, Hg, Ho, Ha⟩ Hk
  ihave HS' := hmove $$ HS
  icases HS' with ⟨⟨Hp, Hs⟩, Hback⟩
  unfold sPre
  icases Hp with ⟨Hat, Ht1, Ht2, Hd⟩
  unfold ownX
  icases Hd with ⟨%fd, Hd⟩
  ihave #H1 := (Recs_at m K (c, some (sIx j))) $$ HR
  icases H1 with ⟨#Hi1, #Hre1⟩
  ihave #H2 := (Recs_at m K (peer j c, some (rIx j))) $$ HR
  icases H2 with ⟨#Hi2, #Hre2⟩
  iapply (Rounds.wp_send_pointsTo 𝒱₀ ER (Rd m) (c : Thread nD τ) none (κ₁ := K (c, some (sIx j))) (κ₂ := K (peer j c, some (rIx j)))
    (r₁ := 0) (r₂ := 0) (d₁ := false) (d₂ := false) (fd := fd) (fs := (srcM c j).view.rep (sv m c j)) (q := srcQ j)
    (by rw [duties_send]; exact Finset.mem_singleton_self _) (by rw [duties_recv]; exact Finset.mem_singleton_self _)
    () () N (show (dstM j).view.amount (.dma (recvS j)) = N from credit_dst j) (amount_send m c j false) (amount_recv m (peer j c) j false) (owe c (k + 1)) howe (W := W)
    (by rw [payload_send]; unfold sendPay own; exact Entails.of_eq rfl)
    (by
      rw [payload_recv]; unfold recvPay
      refine Entails.of_eq ?_
      have e : sv m c j = lv' m (peer j c) j := by show _ = sv m (peer j (peer j c)) j; rw [peer_peer]
      exact own_of_read (peer j c) (dstM j) fullShare (lv' m (peer j c) j) _
        ((View.read_write_univ (v := (dstM j).view) fd _).trans ((View.read_rep (srcM c j).view (sv m c j)).trans e)))) $$ [HO Hs Hd Ht1 Ht2]
  · isplitr; · iexact Hi1
    isplitr; · iexact Hi2
    isplitl [Hs]; · unfold sendPay own; iexact Hs
    isplitl [Hd]; · iexact Hd
    isplitl [HO]; · iexact HO
    isplitl [Ht1]; · iexact Ht1
    isplitr; · iexact Hre1
    isplitl [Ht2]; · iexact Ht2
    iexact Hre2
  iintro ⟨Hcr, HO⟩
  iapply Hk
  isplitr; · iexact HR
  isplitr; · iexact HL
  isplitl [HO]; · iexists W; iexact HO
  isplitl [Hat Hcr Hback]
  · iapply Hback; unfold sFly; isplitl [Hat] <;> iassumption
  isplitl [Hr]; · iexact Hr
  isplitl [Hz]; · iexact Hz
  isplitl [Hb]; · iexact Hb
  isplitl [Hg]; · iexact Hg
  isplitl [Ho] <;> iassumption

/-- The wait for the source of copy `t` of the order, every copy started. -/
theorem st_waitS {α : Type} {Q : α → sProp 𝕄} {z s g o r w : ℕ} (t : ℕ) (ht : t < 24)
    {sp' : Space} {s' : Shape} {e' : EltTy} {src : Memref sig .tc sp' s' e'} {dst : Memref sig .tc .vmem S512x128 .bf16} {sS : DmaSem sig}
    (hsS : sS = sendS (sOrd ⟨t, ht⟩)) (hN : dst.view.dmaCredit = N)
    {hsrc : src.view.WordExact} {hdst : dst.view.WordExact} {k' : PUnit → Prog (TpuEff nD τ sig (Elt F) Λ₀ .tc) α} :
    St m K c z s g o r 24 t w ⊢ iprop((St m K c z s g o r 24 (t + 1) w -∗ WP c (k' ⟨⟩) Q)
      -∗ WP c (.op (.waitDma2 sS src dst hsrc hdst) k') Q) := by
  subst hsS
  generalize hj : sOrd ⟨t, ht⟩ = j at *
  have hmove := sAt_wait m c r 24 t ht ht
  rw [hj] at hmove
  have hw := wpE_waitDma2_eq (defs := defs₀ (F := F)) (Name := ℕ) (U := UU) (Lvl := ℕ) (Ix := Unit) 𝒱₀ (c : Thread nD τ) none Set.univ
    (sem := sendS j) (src := src) (dst := dst) (hsrc := hsrc) (hdst := hdst)
  rw [hN] at hw
  unfold St owesK
  iintro ⟨#HR, #HL, ⟨%W, HO⟩, HS, Hr, Hz, Hb, Hg, Ho, Ha⟩ Hk
  ihave HS' := hmove $$ HS
  icases HS' with ⟨Hp, Hback⟩
  unfold sFly
  icases Hp with ⟨Hat, Hcr⟩
  ihave #H1 := (Recs_at m K (c, some (sIx j))) $$ HR
  icases H1 with ⟨#Hi1, #Hre1⟩
  iapply (Rounds.wp_wait_rest_token 𝒱₀ ER (Rd m) (c : Thread nD τ) none (κ := K (c, some (sIx j))) hw (Set.mem_univ _) () (O := owe c 24) (W := W) (R := 0) (m := 0) (T := ∅)
    ((Nat.zero_add N).trans (expect_send m c j).symm)) $$ [HO Hat Hcr]
  · isplitr; · iexact Hi1
    isplitl [Hcr]; · iexact Hcr
    isplitl [HO]; · iexact HO
    isplitr; · iapply (mayWait_send c j 24); iexact HL
    iexact Hat
  iintro ⟨HO, Hat, -, Hpay⟩
  ihave Hpay := (Entails.of_eq (rest_send m c j)) $$ Hpay
  imod (Rounds.cell_close ER (Rd m) (Set.mem_univ (K (c, some (sIx j)))) (fun h => h) (R := 0 + 1) (duties_later m (sendCell c j))) $$ [Hat] with Hv
  · isplitr; · iexact Hi1
    iexact Hat
  iapply Hk
  isplitr; · iexact HR
  isplitr; · iexact HL
  isplitl [HO]; · iexists _; iexact HO
  isplitl [Hv Hpay Hback]
  · iapply Hback; unfold sDone; isplitl [Hv] <;> iassumption
  isplitl [Hr]; · iexact Hr
  isplitl [Hz]; · iexact Hz
  isplitl [Hb]; · iexact Hb
  isplitl [Hg]; · iexact Hg
  isplitl [Ho] <;> iassumption

/-- The state but for the copies: what the waits below leave alone. -/
def StR (z s g o k w : ℕ) : sProp 𝕄 :=
  iprop(Recs m K ∗ levAts L lv ∗ owesK c k ∗ bigSep Finset.univ (rAt m c w)
    ∗ bigSep Finset.univ (zAt m c z) ∗ bigSep Finset.univ (sbAt c s) ∗ bigSep Finset.univ (agAt c g) ∗ bigSep Finset.univ (oAt m c o) ∗ args m c)

theorem St_eq (z s g o r k t w : ℕ) : St m K c z s g o r k t w ⊣⊢ iprop(bigSep Finset.univ (sAt m c r k t) ∗ StR m K c z s g o k w) := by
  unfold St StR
  constructor
  · iintro ⟨H1, H2, H3, H4, H5⟩
    isplitl [H4]; · iexact H4
    isplitl [H1]; · iexact H1
    isplitl [H2]; · iexact H2
    isplitl [H3] <;> iassumption
  · iintro ⟨H4, H1, H2, H3, H5⟩
    isplitl [H1]; · iexact H1
    isplitl [H2]; · iexact H2
    isplitl [H3]; · iexact H3
    isplitl [H4] <;> iassumption

/-- The wait for copy `w` of the order to land: the slot is the device's, with what has landed. -/
theorem st_land {α : Type} {Q : α → sProp 𝕄} {z s g o k : ℕ} (w : ℕ) (hw : w < 24) (hk : (sPos (rOrd ⟨w, hw⟩)).val < k)
    {sp' : Space} {s' : Shape} {e' : EltTy} {src : Memref sig .tc sp' s' e'} {dst : Memref sig .tc .vmem S512x128 .bf16} {sS : DmaSem sig}
    (hsS : sS = recvS (rOrd ⟨w, hw⟩)) (hN : dst.view.dmaCredit = N)
    {hsrc : src.view.WordExact} {hdst : dst.view.WordExact} {k' : PUnit → Prog (TpuEff nD τ sig (Elt F) Λ₀ .tc) α} :
    StR m K c z s g o k w ⊢ iprop((((own c (dstM (rOrd ⟨w, hw⟩)) (lndQ (rOrd ⟨w, hw⟩)) (lv' m c (rOrd ⟨w, hw⟩)) -∗ StR m K c z s g o k (w + 1))
        ∗ own c (dstM (rOrd ⟨w, hw⟩)) fullShare (lv' m c (rOrd ⟨w, hw⟩))) -∗ WP c (k' ⟨⟩) Q)
      -∗ WP c (.op (.waitDma2 sS src dst hsrc hdst) k') Q) := by
  subst hsS
  generalize hj : rOrd ⟨w, hw⟩ = j at *
  have hmove := rAt_wait m c w hw
  rw [hj] at hmove
  have hw' := wpE_waitDma2_eq (defs := defs₀ (F := F)) (Name := ℕ) (U := UU) (Lvl := ℕ) (Ix := Unit) 𝒱₀ (c : Thread nD τ) none Set.univ
    (sem := recvS j) (src := src) (dst := dst) (hsrc := hsrc) (hdst := hdst)
  rw [hN] at hw'
  unfold StR owesK
  iintro ⟨#HR, #HL, ⟨%W, HO⟩, Hr, Hz, Hb, Hg, Ho, Ha⟩ Hk
  ihave Hr' := hmove $$ Hr
  icases Hr' with ⟨Hp, Hback⟩
  unfold rWait
  icases Hp with ⟨Hat, Hcr⟩
  ihave #H1 := (Recs_at m K (c, some (rIx j))) $$ HR
  icases H1 with ⟨#Hi1, #Hre1⟩
  iapply (Rounds.wp_wait_rest_token 𝒱₀ ER (Rd m) (c : Thread nD τ) none (κ := K (c, some (rIx j))) hw' (Set.mem_univ _) () (O := owe c k) (W := W) (R := 0) (m := 0) (T := ∅)
    ((Nat.zero_add N).trans (expect_recv m c j).symm)) $$ [HO Hat Hcr]
  · isplitr; · iexact Hi1
    isplitl [Hcr]; · iexact Hcr
    isplitl [HO]; · iexact HO
    isplitr; · iapply (mayWait_recv c j k hk); iexact HL
    iexact Hat
  iintro ⟨HO, Hat, -, Hpay⟩
  ihave Hpay := (Entails.of_eq (rest_recv m c j)) $$ Hpay
  imod (Rounds.cell_close ER (Rd m) (Set.mem_univ (K (c, some (rIx j)))) (fun h => h) (R := 0 + 1) (duties_later m (recvCell c j))) $$ [Hat] with Hv
  · isplitr; · iexact Hi1
    iexact Hat
  iapply Hk
  unfold recvPay
  isplitr [Hpay]
  · iintro Hpay
    isplitr; · iexact HR
    isplitr; · iexact HL
    isplitl [HO]; · iexists _; iexact HO
    isplitl [Hv Hpay Hback]
    · iapply Hback; unfold rDone; isplitl [Hv] <;> iassumption
    isplitl [Hz]; · iexact Hz
    isplitl [Hb]; · iexact Hb
    isplitl [Hg]; · iexact Hg
    isplitl [Ho] <;> iassumption
  iexact Hpay

/-- The same, from state to state, for a piece that is not passed on, -/
theorem st_waitR {α : Type} {Q : α → sProp 𝕄} {z s g o r k t : ℕ} (w : ℕ) (hw : w < 24) (hk : (sPos (rOrd ⟨w, hw⟩)).val < k)
    (hq : lndQ (rOrd ⟨w, hw⟩) = fullShare)
    {sp' : Space} {s' : Shape} {e' : EltTy} {src : Memref sig .tc sp' s' e'} {dst : Memref sig .tc .vmem S512x128 .bf16} {sS : DmaSem sig}
    (hsS : sS = recvS (rOrd ⟨w, hw⟩)) (hN : dst.view.dmaCredit = N)
    {hsrc : src.view.WordExact} {hdst : dst.view.WordExact} {k' : PUnit → Prog (TpuEff nD τ sig (Elt F) Λ₀ .tc) α} :
    St m K c z s g o r k t w ⊢ iprop((St m K c z s g o r k t (w + 1) -∗ WP c (k' ⟨⟩) Q)
      -∗ WP c (.op (.waitDma2 sS src dst hsrc hdst) k') Q) := by
  iintro H Hk
  ihave H' := (St_eq m K c z s g o r k t w).1 $$ H
  icases H' with ⟨HS, H⟩
  iapply (st_land m K c w hw hk hsS hN) $$ H
  rw [hq]
  iintro ⟨Hb, Hp⟩
  iapply Hk
  iapply (St_eq m K c z s g o r k t (w + 1)).2
  isplitl [HS]; · iexact HS
  iapply Hb
  iexact Hp

/-- and for a piece that is passed on: half of it stays for the device to read, the other half is the next copy's source. -/
theorem st_waitF {α : Type} {Q : α → sProp 𝕄} {z s g o k t : ℕ} (r w : ℕ) (hw : w < 24) (hk : (sPos (rOrd ⟨w, hw⟩)).val < k) (hr : r < 24) (hkr : k ≤ r) (htk : t ≤ k)
    (hq : lndQ (rOrd ⟨w, hw⟩) = fullShare.left)
    (hf : own (F := F) c (dstM (rOrd ⟨w, hw⟩)) fullShare.right (lv' m c (rOrd ⟨w, hw⟩)) = sendPay m c (sOrd ⟨r, hr⟩))
    {sp' : Space} {s' : Shape} {e' : EltTy} {src : Memref sig .tc sp' s' e'} {dst : Memref sig .tc .vmem S512x128 .bf16} {sS : DmaSem sig}
    (hsS : sS = recvS (rOrd ⟨w, hw⟩)) (hN : dst.view.dmaCredit = N)
    {hsrc : src.view.WordExact} {hdst : dst.view.WordExact} {k' : PUnit → Prog (TpuEff nD τ sig (Elt F) Λ₀ .tc) α} :
    St m K c z s g o r k t w ⊢ iprop((St m K c z s g o (r + 1) k t (w + 1) -∗ WP c (k' ⟨⟩) Q)
      -∗ WP c (.op (.waitDma2 sS src dst hsrc hdst) k') Q) := by
  iintro H Hk
  ihave H' := (St_eq m K c z s g o r k t w).1 $$ H
  icases H' with ⟨HS, H⟩
  iapply (st_land m K c w hw hk hsS hN) $$ H
  rw [hq]
  iintro ⟨Hb, Hp⟩
  ihave Hp' := (own_halves c (dstM (rOrd ⟨w, hw⟩)) fullShare (lv' m c (rOrd ⟨w, hw⟩))).1 $$ Hp
  icases Hp' with ⟨Hp1, Hp2⟩
  ihave Hp2 := (Entails.of_eq hf) $$ Hp2
  iapply Hk
  iapply (St_eq m K c z s g o (r + 1) k t (w + 1)).2
  isplitl [HS Hp2]
  · iapply (sAt_ready m c r k t hr hkr htk); isplitl [HS] <;> iassumption
  iapply Hb
  iexact Hp1

/-! ## Loads -/

/-- A tile of the product is read. -/
theorem st_ldz {α : Type} {Q : α → sProp 𝕄} {z s g o r k t w : ℕ} (h : Fin 2) (i : Fin 4) (hz : h.val < z)
    {off : Fin 2 → ℕ} {inb} (hoff : off = ![512 * h.val, 128 * (zB c i).val]) {hl}
    {k' : ((Rect.unit (s := S1024x1024) off S512x128.size inb).shape.Idx → Elt F .bf16) → Prog (TpuEff nD τ sig (Elt F) Λ₀ .tc) α} :
    St m K c z s g o r k t w ⊢ iprop((St m K c z s g o r k t w -∗ WP c (k' (zt m c h (zB c i))) Q)
      -∗ WP c (.op (.load zM (Rect.unit (s := S1024x1024) off S512x128.size inb).toLoadRect hl) k') Q) := by
  subst hoff
  have hmove := zAt_read m c z h i hz
  unfold St
  iintro ⟨HR, HL, HO, HS, Hr, Hz, Hb, Hg, Ho, Ha⟩ Hk
  ihave Hz' := hmove $$ Hz
  icases Hz' with ⟨Hp, Hback⟩
  iapply (ld_slice c (M := zM) (r := Rect.unit (s := S1024x1024) ![512 * h.val, 128 * (zB c i).val] S512x128.size inb) (hr := fun _ => rfl)
    (v := zt m c h (zB c i)) (q := fullShare)) $$ [Hp]
  · iexact Hp
  iintro Hp
  iapply Hk
  isplitl [HR]; · iexact HR
  isplitl [HL]; · iexact HL
  isplitl [HO]; · iexact HO
  isplitl [HS]; · iexact HS
  isplitl [Hr]; · iexact Hr
  isplitl [Hp Hback]; · iapply Hback; iexact Hp
  isplitl [Hb]; · iexact Hb
  isplitl [Hg]; · iexact Hg
  isplitl [Ho] <;> iassumption

/-- A landed piece is read. -/
theorem st_ldr {α : Type} {Q : α → sProp 𝕄} {z s g o r k t w : ℕ} (p : Fin 24) (hp : p.val < w)
    {n : ℕ} {M : Memref sig .tc .vmem (⟨3, ![n, 1024, 128]⟩ : Shape) .bf16} {off : Fin 3 → ℕ} {inb}
    (hD : (M.slice (Rect.unit (s := (⟨3, ![n, 1024, 128]⟩ : Shape)) off S1x512x128.size inb) (fun _ => rfl)).squeeze S512x128 squeezes_S1x512x128_S512x128 = dstM (rOrd p)) {hl}
    {k' : ((Rect.unit (s := (⟨3, ![n, 1024, 128]⟩ : Shape)) off S1x512x128.size inb).shape.Idx → Elt F .bf16) → Prog (TpuEff nD τ sig (Elt F) Λ₀ .tc) α} :
    St m K c z s g o r k t w ⊢ iprop((St m K c z s g o r k t w -∗ WP c (k' (up (lv' m c (rOrd p)))) Q)
      -∗ WP c (.op (.load M (Rect.unit (s := (⟨3, ![n, 1024, 128]⟩ : Shape)) off S1x512x128.size inb).toLoadRect hl) k') Q) := by
  have hmove := rAt_read m c w p hp
  unfold St
  iintro ⟨HR, HL, HO, HS, Hr, Hz, Hb, Hg, Ho, Ha⟩ Hk
  ihave Hr' := hmove $$ Hr
  icases Hr' with ⟨Hp, Hback⟩
  iapply (ld_slot c (M := M) (off := off) (sz := S1x512x128.size) (inb := inb) (D := dstM (rOrd p)) (v := lv' m c (rOrd p))
    (hq := squeezes_S1x512x128_S512x128) shapeCasts_S1x512x128_S512x128 shapeCasts_S512x128_S1x512x128 hD) $$ [Hp]
  · iexact Hp
  iintro Hp
  iapply Hk
  isplitl [HR]; · iexact HR
  isplitl [HL]; · iexact HL
  isplitl [HO]; · iexact HO
  isplitl [HS]; · iexact HS
  isplitl [Hp Hback]; · iapply Hback; iexact Hp
  isplitl [Hz]; · iexact Hz
  isplitl [Hb]; · iexact Hb
  isplitl [Hg]; · iexact Hg
  isplitl [Ho] <;> iassumption

/-- Half of the rows of the block of `A` is read. -/
theorem st_lda {α : Type} {Q : α → sProp 𝕄} {z s g o r k t w : ℕ} (h : Fin 2) {inb} {hl}
    {k' : ((Rect.unit (s := S1024x512) ![512 * h.val, 0] S512x512.size inb).shape.Idx → Elt F .f32) → Prog (TpuEff nD τ sig (Elt F) Λ₀ .tc) α} :
    St m K c z s g o r k t w ⊢ iprop((St m K c z s g o r k t w -∗ WP c (k' (aRows m c h)) Q)
      -∗ WP c (.op (.load aM (Rect.unit (s := S1024x512) ![512 * h.val, 0] S512x512.size inb).toLoadRect hl) k') Q) := by
  unfold St args
  iintro ⟨HR, HL, HO, HS, Hr, Hz, Hb, Hg, Ho, Ha, Ha'⟩ Hk
  iapply (wp_load (Γ := []) 𝒱₀ (c : Thread nD τ) none Set.univ (m := aM) (S := Finset.univ) (q := fullShare) (f := aStg m c) (Finset.subset_univ _)) $$ [Ha]
  · iexact Ha
  iintro Ha
  iapply Hk
  isplitl [HR]; · iexact HR
  isplitl [HL]; · iexact HL
  isplitl [HO]; · iexact HO
  isplitl [HS]; · iexact HS
  isplitl [Hr]; · iexact Hr
  isplitl [Hz]; · iexact Hz
  isplitl [Hb]; · iexact Hb
  isplitl [Hg]; · iexact Hg
  isplitl [Ho]; · iexact Ho
  isplitl [Ha] <;> iassumption

/-- The block of `B` in the short format is read. -/
theorem st_ldb {α : Type} {Q : α → sProp 𝕄} {z s g o r k t w : ℕ} {inb} {hl}
    {k' : ((Rect.unit (s := S512x1024) ![0, 0] S512x1024.size inb).shape.Idx → Elt F .bf16) → Prog (TpuEff nD τ sig (Elt F) Λ₀ .tc) α} :
    St m K c z s g o r k t w ⊢ iprop((St m K c z s g o r k t w -∗ WP c (k' (bbv m c)) Q)
      -∗ WP c (.op (.load bbM (Rect.unit (s := S512x1024) ![0, 0] S512x1024.size inb).toLoadRect hl) k') Q) := by
  have e : bbM.view.readAt (Elt F) (Rect.unit (s := S512x1024) ![0, 0] S512x1024.size inb).toLoadRect (bbM.view.rep (bbv m c)) = bbv m c :=
    View.readAt_rep_full bbM.view (bbv m c) inb
  unfold St args own
  iintro ⟨HR, HL, HO, HS, Hr, Hz, Hb, Hg, Ho, Ha, Ha', Hbb⟩ Hk
  have hl' := wp_load (defs := defs₀ (F := F)) (Name := ℕ) (U := UU) (Lvl := ℕ) (Ix := Unit) (Γ := []) (Q := Q) 𝒱₀ (c : Thread nD τ) none Set.univ (m := bbM) (hl := hl) (k := k')
    (S := bbM.view.set) (q := fullShare) (f := bbM.view.rep (bbv m c)) (View.setOn_subset_set _ _)
  rw [e] at hl'
  iapply hl' $$ [Hbb]
  · iexact Hbb
  iintro Hbb
  iapply Hk
  isplitl [HR]; · iexact HR
  isplitl [HL]; · iexact HL
  isplitl [HO]; · iexact HO
  isplitl [HS]; · iexact HS
  isplitl [Hr]; · iexact Hr
  isplitl [Hz]; · iexact Hz
  isplitl [Hb]; · iexact Hb
  isplitl [Hg]; · iexact Hg
  isplitl [Ho]; · iexact Ho
  isplitl [Ha]; · iexact Ha
  isplitl [Ha'] <;> iassumption

/-! ## Stores -/

theorem bigSep_four (Φ : Fin 4 → sProp 𝕄) : bigSep Finset.univ Φ = iprop(Φ 0 ∗ Φ 1 ∗ Φ 2 ∗ Φ 3) := by
  rw [bigSep_univ_eq_bigSepL (I := Fin 4) [0, 1, 2, 3] (by decide) (by decide)]; rfl

/-- Half `h` of the product is stored: its four blocks for the others are ready to be sent. -/
theorem st_putz {α : Type} {Q : α → sProp 𝕄} {s g o k t w : ℕ} (h : Fin 2) (hk : k ≤ 4 * h.val) (ht : t ≤ k) {inb inb'}
    {v : Vec F S512x1024 .bf16} (hv : v = zrow m c h) {hl} {hx} {hm} {k' : PUnit → Prog (TpuEff nD τ sig (Elt F) Λ₀ .tc) α} :
    St m K c h.val s g o (4 * h.val) k t w ⊢ iprop((St m K c (h.val + 1) s g o (4 * h.val + 4) k t w -∗ WP c (k' ⟨⟩) Q)
      -∗ WP c (.op (.load zM (Rect.unit (s := S1024x1024) ![512 * h.val, 0] S512x1024.size inb).toLoadRect hl)
        fun _ => .op (.store zM (Rect.unit (s := S1024x1024) ![512 * h.val, 0] S512x1024.size inb') v Finset.univ hx hm) k') Q) := by
  subst hv
  have hh := h.isLt
  have hmove := zAt_store m c h
  unfold St
  iintro ⟨HR, HL, HO, HS, Hr, Hz, Hb, Hg, Ho, Ha⟩ Hk
  ihave Hz' := hmove $$ Hz
  icases Hz' with ⟨Hp, Hback⟩
  iapply (put_slice c (M := zM) (r := Rect.unit (s := S1024x1024) ![512 * h.val, 0] S512x1024.size inb) (hr := fun _ => rfl) (w := zrow m c h)) $$ [Hp]
  · iexact Hp
  iintro Hp
  ihave Hp' := (Entails.of_eq (zrow_split m c h)) $$ [Hp]
  · iexact Hp
  icases Hp' with ⟨Ht, Hs⟩
  ihave Hs := (Entails.of_eq (bigSep_four (fun i : Fin 4 => sendPay m c (sOrd (zP h i))))) $$ Hs
  icases Hs with ⟨Hs0, Hs1, Hs2, Hs3⟩
  ihave HS := (sAt_ready m c (4 * h.val) k t (by omega) (by omega) ht) $$ [HS Hs0]
  · isplitl [HS]; · iexact HS
    iexact Hs0
  ihave HS := (sAt_ready m c (4 * h.val + 1) k t (by omega) (by omega) ht) $$ [HS Hs1]
  · isplitl [HS]; · iexact HS
    iexact Hs1
  ihave HS := (sAt_ready m c (4 * h.val + 2) k t (by omega) (by omega) ht) $$ [HS Hs2]
  · isplitl [HS]; · iexact HS
    iexact Hs2
  ihave HS := (sAt_ready m c (4 * h.val + 3) k t (by omega) (by omega) ht) $$ [HS Hs3]
  · isplitl [HS]; · iexact HS
    iexact Hs3
  iapply Hk
  isplitl [HR]; · iexact HR
  isplitl [HL]; · iexact HL
  isplitl [HO]; · iexact HO
  isplitl [HS]; · iexact HS
  isplitl [Hr]; · iexact Hr
  isplitl [Ht Hback]; · iapply Hback; iexact Ht
  isplitl [Hb]; · iexact Hb
  isplitl [Hg]; · iexact Hg
  isplitl [Ho] <;> iassumption

theorem srcQ_sb (n : Fin 4) : srcQ (sOrd (sbP n)) = fullShare := by fin_cases n <;> rfl

/-- A partial sum is stored, and ready to be sent. -/
theorem st_puts {α : Type} {Q : α → sProp 𝕄} {z g o k t w : ℕ} (n : Fin 4) (hk : k ≤ 8 + n.val) (ht : t ≤ k) {off : Fin 3 → ℕ} {inb inb'}
    (hD : (sbM.slice (Rect.unit (s := S2x1024x128) off S1x512x128.size inb) (fun _ => rfl)).squeeze S512x128 squeezes_S1x512x128_S512x128 = srcM c (sOrd (sbP n)))
    {v : Vec F S1x512x128 .bf16} (hv : dn v = sv m c (sOrd (sbP n))) {hl} {hx} {hm} {k' : PUnit → Prog (TpuEff nD τ sig (Elt F) Λ₀ .tc) α} :
    St m K c z n.val g o (8 + n.val) k t w ⊢ iprop((St m K c z (n.val + 1) g o (8 + n.val + 1) k t w -∗ WP c (k' ⟨⟩) Q)
      -∗ WP c (.op (.load sbM (Rect.unit (s := S2x1024x128) off S1x512x128.size inb).toLoadRect hl)
        fun _ => .op (.store sbM (Rect.unit (s := S2x1024x128) off S1x512x128.size inb') v Finset.univ hx hm) k') Q) := by
  have hn := n.isLt
  have hmove := sbAt_store (F := F) c n
  have hq : srcQ (sOrd (sbP n)) = fullShare := srcQ_sb n
  have hpay : own c (srcM c (sOrd (sbP n))) fullShare (dn v) = sendPay m c (sOrd ⟨8 + n.val, by omega⟩) := by
    rw [hv]; unfold sendPay; show _ = own c (srcM c (sOrd (sbP n))) (srcQ (sOrd (sbP n))) (sv m c (sOrd (sbP n))); rw [hq]
  unfold St
  iintro ⟨HR, HL, HO, HS, Hr, Hz, Hb, Hg, Ho, Ha⟩ Hk
  ihave Hb' := hmove $$ Hb
  icases Hb' with ⟨Hp, Hb⟩
  iapply (put_slot c (M := sbM) (off := off) (sz := S1x512x128.size) (inb := inb) (D := srcM c (sOrd (sbP n))) (hq := squeezes_S1x512x128_S512x128)
    shapeCasts_S1x512x128_S512x128 hD (w := v)) $$ [Hp]
  · iexact Hp
  iintro Hp
  ihave Hp := (Entails.of_eq hpay) $$ Hp
  ihave HS := (sAt_ready m c (8 + n.val) k t (by omega) (by omega) ht) $$ [HS Hp]
  · isplitl [HS]; · iexact HS
    iexact Hp
  iapply Hk
  isplitl [HR]; · iexact HR
  isplitl [HL]; · iexact HL
  isplitl [HO]; · iexact HO
  isplitl [HS]; · iexact HS
  isplitl [Hr]; · iexact Hr
  isplitl [Hz]; · iexact Hz
  isplitl [Hb]; · iexact Hb
  isplitl [Hg]; · iexact Hg
  isplitl [Ho] <;> iassumption

/-- A block of finished columns goes out twice, half its share to each copy. -/
theorem ag_pays (n : Fin 4) :
    own c (agtM (agH n) (agB n)) fullShare (sB m (agB n) c (agH n))
      ⊢ iprop(sendPay m c (sOrd ⟨12 + 2 * n.val, by omega⟩) ∗ sendPay m c (sOrd ⟨12 + 2 * n.val + 1, by omega⟩)) := by
  have h : ∀ a b, own c (agtM a b) fullShare (sB m b c a) ⊢ iprop(own c (agtM a b) fullShare.left (sB m b c a) ∗ own c (agtM a b) fullShare.right (sB m b c a)) :=
    fun a b => (own_halves c (agtM a b) fullShare (sB m b c a)).1
  fin_cases n
  · exact h 0 0
  · exact h 0 1
  · exact h 1 0
  · exact h 1 1

/-- A block of finished columns is stored, and ready to be sent to both neighbours. -/
theorem st_putg {α : Type} {Q : α → sProp 𝕄} {z s o k t w : ℕ} (n : Fin 4) (hk : k ≤ 12 + 2 * n.val) (ht : t ≤ k) {off : Fin 2 → ℕ} {inb inb'}
    (hoff : off = ![512 * (agH n).val, 128 * (agB n).val])
    {v : Vec F S512x128 .bf16} (hv : v = sB m (agB n) c (agH n)) {hl} {hx} {hm} {k' : PUnit → Prog (TpuEff nD τ sig (Elt F) Λ₀ .tc) α} :
    St m K c z s n.val o (12 + 2 * n.val) k t w ⊢ iprop((St m K c z s (n.val + 1) o (12 + 2 * n.val + 2) k t w -∗ WP c (k' ⟨⟩) Q)
      -∗ WP c (.op (.load agM (Rect.unit (s := S1024x256) off S512x128.size inb).toLoadRect hl)
        fun _ => .op (.store agM (Rect.unit (s := S1024x256) off S512x128.size inb') v Finset.univ hx hm) k') Q) := by
  subst hoff hv
  have hn := n.isLt
  have hmove := agAt_store (F := F) c n
  unfold St
  iintro ⟨HR, HL, HO, HS, Hr, Hz, Hb, Hg, Ho, Ha⟩ Hk
  ihave Hg' := hmove $$ Hg
  icases Hg' with ⟨Hp, Hg⟩
  iapply (put_slice c (M := agM) (r := Rect.unit (s := S1024x256) ![512 * (agH n).val, 128 * (agB n).val] S512x128.size inb) (hr := fun _ => rfl)
    (w := sB m (agB n) c (agH n))) $$ [Hp]
  · iexact Hp
  iintro Hp
  ihave Hp := (ag_pays m c n) $$ [Hp]
  · iexact Hp
  icases Hp with ⟨Hp0, Hp1⟩
  ihave HS := (sAt_ready m c (12 + 2 * n.val) k t (by omega) (by omega) ht) $$ [HS Hp0]
  · isplitl [HS]; · iexact HS
    iexact Hp0
  ihave HS := (sAt_ready m c (12 + 2 * n.val + 1) k t (by omega) (by omega) ht) $$ [HS Hp1]
  · isplitl [HS]; · iexact HS
    iexact Hp1
  iapply Hk
  isplitl [HR]; · iexact HR
  isplitl [HL]; · iexact HL
  isplitl [HO]; · iexact HO
  isplitl [HS]; · iexact HS
  isplitl [Hr]; · iexact Hr
  isplitl [Hz]; · iexact Hz
  isplitl [Hb]; · iexact Hb
  isplitl [Hg]; · iexact Hg
  isplitl [Ho] <;> iassumption

/-- A tile of the result is stored. -/
theorem st_puto {α : Type} {Q : α → sProp 𝕄} {z s g r k t w : ℕ} (n : Fin 16) {off : Fin 2 → ℕ} {inb inb'}
    (hoff : off = ![512 * (oH n).val, 128 * (oB c n).val])
    {v : Vec F S512x128 .f32} (hv : v = ov m c (oH n) (oB c n)) {hl} {hx} {hm} {k' : PUnit → Prog (TpuEff nD τ sig (Elt F) Λ₀ .tc) α} :
    St m K c z s g n.val r k t w ⊢ iprop((St m K c z s g (n.val + 1) r k t w -∗ WP c (k' ⟨⟩) Q)
      -∗ WP c (.op (.load oM (Rect.unit (s := S1024x1024) off S512x128.size inb).toLoadRect hl)
        fun _ => .op (.store oM (Rect.unit (s := S1024x1024) off S512x128.size inb') v Finset.univ hx hm) k') Q) := by
  subst hoff hv
  have hmove := oAt_store m c n
  unfold St
  iintro ⟨HR, HL, HO, HS, Hr, Hz, Hb, Hg, Ho, Ha⟩ Hk
  ihave Ho' := hmove $$ Ho
  icases Ho' with ⟨Hp, Hback⟩
  iapply (put_slice c (M := oM) (r := Rect.unit (s := S1024x1024) ![512 * (oH n).val, 128 * (oB c n).val] S512x128.size inb) (hr := fun _ => rfl)
    (w := ov m c (oH n) (oB c n))) $$ [Hp]
  · iexact Hp
  iintro Hp
  iapply Hk
  isplitl [HR]; · iexact HR
  isplitl [HL]; · iexact HL
  isplitl [HO]; · iexact HO
  isplitl [HS]; · iexact HS
  isplitl [Hr]; · iexact Hr
  isplitl [Hz]; · iexact Hz
  isplitl [Hb]; · iexact Hb
  isplitl [Hg]; · iexact Hg
  isplitl [Hp Hback]; · iapply Hback; iexact Hp
  iexact Ha

end Cert.Ring

end

end
-- ==== Proof.Facts.lean ====
/-
# The kernel's arithmetic

The kernel computes its neighbours and its column offsets with word arithmetic on its own number. Here: which device
each copy goes to, and which block of columns each offset is; and which value each store of the kernel stores.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Devices -/

/-- The kernel's words for the device of its two signals and of each copy, in the order of the copies. -/
def devs (d : Dev nD) : Fin 26 → ℕ :=
  ![k0_dev1 d, k0_dev2 d, k0_dev3 d, k0_dev4 d, k0_dev5 d, k0_dev6 d, k0_dev7 d, k0_dev8 d, k0_dev9 d, k0_dev10 d, k0_dev11 d, k0_dev12 d, k0_dev13 d,
    k0_dev14 d, k0_dev15 d, k0_dev16 d, k0_dev17 d, k0_dev18 d, k0_dev19 d, k0_dev20 d, k0_dev21 d, k0_dev22 d, k0_dev23 d, k0_dev24 d, k0_dev25 d, k0_dev26 d]

theorem devs_signal : ∀ d : Dev nD, devs d 0 = (p1 d).val ∧ devs d 1 = (p2 d).val := by decide +kernel
theorem devs_copy : ∀ (d : Dev nD) (p : Fin 24), devs d ⟨p.val + 2, by omega⟩ = (peer (sOrd p) d).val := by decide +kernel

/-- The device of copy `p`, under whatever proof that the word is one. -/
theorem dev_eq (c : Dev nD) (p : Fin 24) {n : ℕ} {h : n < nD} (hn : n = devs c ⟨p.val + 2, by omega⟩) : (⟨n, h⟩ : Dev nD) = peer (sOrd p) c :=
  Fin.ext (hn.trans (devs_copy c p))

/-! ## Offsets -/

/-- The offsets of the product's blocks that are sent, in the order of the copies. -/
def offS (d : Dev nD) : Fin 8 → Fin 2 → ℕ := ![k0_off1 d, k0_off2 d, k0_off3 d, k0_off4 d, k0_off5 d, k0_off6 d, k0_off7 d, k0_off8 d]
set_option backward.proofsInPublic true in
theorem offS_eq : ∀ (d : Dev nD) (h : Fin 2) (i : Fin 4), offS d ⟨4 * h.val + i.val, by omega⟩ = ![512 * h.val, 128 * (zS d i).val] := by decide +kernel

/-- The offsets of the product's blocks that are read, -/
def offZ (d : Dev nD) : Fin 2 → Fin 4 → Fin 2 → ℕ := ![![k0_off13 d, k0_off14 d, k0_off9 d, k0_off10 d], ![k0_off15 d, k0_off16 d, k0_off11 d, k0_off12 d]]
theorem offZ_eq : ∀ (d : Dev nD) (h : Fin 2) (i : Fin 4), offZ d h i = ![512 * h.val, 128 * (zB d i).val] := by decide +kernel

/-- and of the result's tiles, in the order of the stores. -/
def offO (d : Dev nD) : Fin 16 → Fin 2 → ℕ :=
  ![k0_off13 d, k0_off14 d, k0_off15 d, k0_off16 d, k0_off9 d, k0_off10 d, k0_off17 d, k0_off18 d, k0_off19 d, k0_off20 d,
    k0_off11 d, k0_off12 d, k0_off21 d, k0_off22 d, k0_off23 d, k0_off24 d]
theorem offO_eq : ∀ (d : Dev nD) (n : Fin 16), offO d n = ![512 * (oH n).val, 128 * (oB d n).val] := by decide +kernel

/-- The piece a copy of the product's blocks is read from. -/
theorem src_eq (c : Dev nD) (p : Fin 24) (h : Fin 2) (i : Fin 4) (hp : p = zP h i) {off : Fin 2 → ℕ} {inb} (ho : off = offS c ⟨4 * h.val + i.val, by omega⟩) :
    zM.slice (Rect.unit (s := S1024x1024) off S512x128.size inb) (fun _ => rfl) = srcM c (sOrd p) := by
  have e : srcM c (sOrd (zP h i)) = ztM h (zS c i) := by fin_cases h <;> fin_cases i <;> rfl
  rw [hp, e]
  exact Memref.slice_unit_congr zM (ho.trans (offS_eq c h i)) _ _ (fun _ => rfl) (fun _ => rfl)

/-! ## Values -/

variable (m : (ℓ : Loc nD τ sig) → Buf (Elt F) ℓ) (c : Dev nD)

theorem ov_own (h : Fin 2) : ov m c h (qa c) = sF m 0 c h ∧ ov m c h (qb c) = sF m 1 c h := by
  have h1 : ∀ c : Dev nD, bDev (qa c) = c ∧ bDev (qb c) = c ∧ bSub (qa c) = 0 ∧ bSub (qb c) = 1 := by decide
  obtain ⟨a, b, d, e⟩ := h1 c
  constructor
  · unfold ov; rw [if_pos a, d]
  · unfold ov; rw [if_pos b, e]

theorem ov_other (h : Fin 2) (d : Dev nD) (hd : d ≠ c) :
    ov m c h (qa d) = k0_pay22 (up (sB m 0 d h)) ∧ ov m c h (qb d) = k0_pay22 (up (sB m 1 d h)) := by
  have h1 : ∀ c : Dev nD, bDev (qa c) = c ∧ bDev (qb c) = c ∧ bSub (qa c) = 0 ∧ bSub (qb c) = 1 := by decide
  obtain ⟨a, b, e, f⟩ := h1 d
  constructor
  · unfold ov; rw [if_neg (by rw [a]; exact hd), a, e]
  · unfold ov; rw [if_neg (by rw [b]; exact hd), b, f]

theorem p1_ne (c : Dev nD) : p1 c ≠ c := by revert c; decide
theorem p2_ne (c : Dev nD) : p2 c ≠ c := by revert c; decide
theorem dg_ne (c : Dev nD) : dg c ≠ c := by revert c; decide
theorem p2_p1 (c : Dev nD) : p2 (p1 c) = dg c := by revert c; decide
theorem p1_p2 (c : Dev nD) : p1 (p2 c) = dg c := by revert c; decide

end Cert.Ring

end

end
-- ==== Proof.PartsA.lean ====
/-
# The parts of the kernel's body, first half

Each part of the body, from the state before it to the state after it.
-/
module

public import proofs.«01_k».proof.Proof.Facts

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-- A part of the body at the kernel's buffers and semaphores. -/
abbrev onBufs {β : Type 1}
    (f : (arg0 : Memref sig .tc .vmem S1024x512 .f32) → arg0.IsWhole → (arg1 : Memref sig .tc .vmem S512x1024 .f32) → arg1.IsWhole →
      (arg2 : Memref sig .tc .vmem S1024x1024 .f32) → arg2.IsWhole → (arg3 : Memref sig .tc .vmem S1024x1024 .bf16) → arg3.IsWhole →
      (arg4 : Memref sig .tc .vmem S512x1024 .bf16) → arg4.IsWhole → (arg5 : Memref sig .tc .vmem S2x1024x128 .bf16) → arg5.IsWhole →
      (arg6 : Memref sig .tc .vmem S4x1024x128 .bf16) → arg6.IsWhole → (arg7 : Memref sig .tc .vmem S2x1024x128 .bf16) → arg7.IsWhole →
      (arg8 : Memref sig .tc .vmem S1024x256 .bf16) → arg8.IsWhole → (arg9 : Memref sig .tc .vmem S6x1024x128 .bf16) → arg9.IsWhole →
      DmaSems sig S24 → DmaSems sig S24 → β) : β :=
  f aM (Memref.isWhole_whole _) bM (Memref.isWhole_whole _) oM (Memref.isWhole_whole _) zM (Memref.isWhole_whole _) bbM (Memref.isWhole_whole _)
    sbM (Memref.isWhole_whole _) r1M (Memref.isWhole_whole _) r2M (Memref.isWhole_whole _) agM (Memref.isWhole_whole _) alM (Memref.isWhole_whole _)
    cc0_scratch7 cc0_scratch8

theorem part2 {Q : PUnit → sProp 𝕄} (v3 v4 v27 : BitVec 32) :
    St m K c 1 0 0 0 4 0 0 0 ⊢ iprop((St m K c 1 0 0 0 4 2 0 0 -∗ Q ⟨⟩)
      -∗ WP c (onBufs (k0_part2 (F := F)) c v3 v4 v27) Q) := by
  unfold onBufs
  rw [k0_part2_eq_skeleton]
  unfold k0_part2_skel
  simp only [Prog.lift, Prog.bind_op, Prog.bind_ret, Prog.pure_eq_ret]
  refine chain (st_send m K c 0 (by decide) (by decide) (by decide) (by exact dev_eq c 0 rfl) (by exact src_eq c 0 0 0 rfl rfl) (by rfl) (by rfl) (by rfl)) ?_
  refine chain (st_send m K c 1 (by decide) (by decide) (by decide) (by exact dev_eq c 1 rfl) (by exact src_eq c 1 0 1 rfl rfl) (by rfl) (by rfl) (by rfl)) ?_
  exact done c

theorem part3 {Q : BitVec 32 → sProp 𝕄} (v3 v4 : BitVec 32) :
    St m K c 1 0 0 0 4 2 0 0 ⊢ iprop((St m K c 2 0 0 0 8 4 0 0 -∗ Q (Scalar.muli v3 1#32))
      -∗ WP c (onBufs (k0_part3 (F := F)) c v3 v4) Q) := by
  unfold onBufs
  rw [k0_part3_eq_skeleton]
  unfold k0_part3_skel
  simp only [Prog.lift, Prog.bind_op, Prog.bind_ret, Prog.pure_eq_ret]
  refine chain (st_send m K c 2 (by decide) (by decide) (by decide) (by exact dev_eq c 2 rfl) (by exact src_eq c 2 0 2 rfl rfl) (by rfl) (by rfl) (by rfl)) ?_
  refine chain (st_send m K c 3 (by decide) (by decide) (by decide) (by exact dev_eq c 3 rfl) (by exact src_eq c 3 0 3 rfl rfl) (by rfl) (by rfl) (by rfl)) ?_
  refine chain (st_lda m K c 1) ?_
  refine chain (st_ldb m K c) ?_
  refine chain (st_putz m K c 1 (by decide) (by decide) (by rfl)) ?_
  exact done c

theorem part4 {Q : PUnit → sProp 𝕄} (v3 v4 v86 : BitVec 32) :
    St m K c 2 0 0 0 8 4 0 0 ⊢ iprop((St m K c 2 0 0 0 8 7 0 0 -∗ Q ⟨⟩)
      -∗ WP c (onBufs (k0_part4 (F := F)) c v3 v4 v86) Q) := by
  unfold onBufs
  rw [k0_part4_eq_skeleton]
  unfold k0_part4_skel
  simp only [Prog.lift, Prog.bind_op, Prog.bind_ret, Prog.pure_eq_ret]
  refine chain (st_send m K c 4 (by decide) (by decide) (by decide) (by exact dev_eq c 4 rfl) (by exact src_eq c 4 1 0 rfl rfl) (by rfl) (by rfl) (by rfl)) ?_
  refine chain (st_send m K c 5 (by decide) (by decide) (by decide) (by exact dev_eq c 5 rfl) (by exact src_eq c 5 1 1 rfl rfl) (by rfl) (by rfl) (by rfl)) ?_
  refine chain (st_send m K c 6 (by decide) (by decide) (by decide) (by exact dev_eq c 6 rfl) (by exact src_eq c 6 1 2 rfl rfl) (by rfl) (by rfl) (by rfl)) ?_
  exact done c

theorem part5 {Q : PUnit → sProp 𝕄} (v2 v4 : BitVec 32) :
    St m K c 2 0 0 0 8 7 0 0 ⊢ iprop((St m K c 2 1 0 0 9 8 0 1 -∗ Q ⟨⟩)
      -∗ WP c (onBufs (k0_part5 (F := F)) c v2 v4) Q) := by
  unfold onBufs
  rw [k0_part5_eq_skeleton]
  unfold k0_part5_skel
  simp only [Prog.lift, Prog.bind_op, Prog.bind_ret, Prog.pure_eq_ret]
  refine chain (st_send m K c 7 (by decide) (by decide) (by decide) (by exact dev_eq c 7 rfl) (by exact src_eq c 7 1 3 rfl rfl) (by rfl) (by rfl) (by rfl)) ?_
  refine chain (st_waitR m K c 0 (by decide) (by decide) (by rfl) (by rfl) (by rfl)) ?_
  refine chain (st_ldz m K c 0 2 (by decide) (by exact offZ_eq c 0 2)) ?_
  refine chain (st_ldr m K c 0 (by decide) (by rfl)) ?_
  refine chain (st_puts m K c 0 (by decide) (by decide) (by rfl) (by rfl)) ?_
  exact done c

theorem part6 {Q : PUnit → sProp 𝕄} (v2 v3 : BitVec 32) :
    St m K c 2 1 0 0 9 8 0 1 ⊢ iprop((St m K c 2 2 0 0 10 9 0 2 -∗ Q ⟨⟩)
      -∗ WP c (onBufs (k0_part6 (F := F)) c v2 v3) Q) := by
  unfold onBufs
  rw [k0_part6_eq_skeleton]
  unfold k0_part6_skel
  simp only [Prog.lift, Prog.bind_op, Prog.bind_ret, Prog.pure_eq_ret]
  refine chain (st_send m K c 8 (by decide) (by decide) (by decide) (by exact dev_eq c 8 rfl) (by rfl) (by rfl) (by rfl) (by rfl)) ?_
  refine chain (st_waitR m K c 1 (by decide) (by decide) (by rfl) (by rfl) (by rfl)) ?_
  refine chain (st_ldz m K c 0 3 (by decide) (by exact offZ_eq c 0 3)) ?_
  refine chain (st_ldr m K c 1 (by decide) (by rfl)) ?_
  refine chain (st_puts m K c 1 (by decide) (by decide) (by rfl) (by rfl)) ?_
  exact done c

theorem part7 {Q : PUnit → sProp 𝕄} (v2 v4 : BitVec 32) :
    St m K c 2 2 0 0 10 9 0 2 ⊢ iprop((St m K c 2 3 0 0 11 10 0 3 -∗ Q ⟨⟩)
      -∗ WP c (onBufs (k0_part7 (F := F)) c v2 v4) Q) := by
  unfold onBufs
  rw [k0_part7_eq_skeleton]
  unfold k0_part7_skel
  simp only [Prog.lift, Prog.bind_op, Prog.bind_ret, Prog.pure_eq_ret]
  refine chain (st_send m K c 9 (by decide) (by decide) (by decide) (by exact dev_eq c 9 rfl) (by rfl) (by rfl) (by rfl) (by rfl)) ?_
  refine chain (st_waitR m K c 2 (by decide) (by decide) (by rfl) (by rfl) (by rfl)) ?_
  refine chain (st_ldz m K c 1 2 (by decide) (by exact offZ_eq c 1 2)) ?_
  refine chain (st_ldr m K c 2 (by decide) (by rfl)) ?_
  refine chain (st_puts m K c 2 (by decide) (by decide) (by rfl) (by rfl)) ?_
  exact done c

theorem part8 {Q : PUnit → sProp 𝕄} (v2 v3 : BitVec 32) :
    St m K c 2 3 0 0 11 10 0 3 ⊢ iprop((St m K c 2 4 0 0 12 11 0 4 -∗ Q ⟨⟩)
      -∗ WP c (onBufs (k0_part8 (F := F)) c v2 v3) Q) := by
  unfold onBufs
  rw [k0_part8_eq_skeleton]
  unfold k0_part8_skel
  simp only [Prog.lift, Prog.bind_op, Prog.bind_ret, Prog.pure_eq_ret]
  refine chain (st_send m K c 10 (by decide) (by decide) (by decide) (by exact dev_eq c 10 rfl) (by rfl) (by rfl) (by rfl) (by rfl)) ?_
  refine chain (st_waitR m K c 3 (by decide) (by decide) (by rfl) (by rfl) (by rfl)) ?_
  refine chain (st_ldz m K c 1 3 (by decide) (by exact offZ_eq c 1 3)) ?_
  refine chain (st_ldr m K c 3 (by decide) (by rfl)) ?_
  refine chain (st_puts m K c 3 (by decide) (by decide) (by rfl) (by rfl)) ?_
  exact done c

theorem part9 {Q : (Σ' (_ : FVec F S512x128 .f32), FVec F S512x128 .f32) → sProp 𝕄} (v2 : BitVec 32) :
    St m K c 2 4 0 0 12 11 0 4 ⊢ iprop((St m K c 2 4 0 0 12 12 0 6 -∗ Q ⟨(k0_pay8 (zt m c 0 (qa c)) (up (lv' m c 0))), (k0_pay9 (up (lv' m c 8)))⟩)
      -∗ WP c (onBufs (k0_part9 (F := F)) c v2) Q) := by
  unfold onBufs
  rw [k0_part9_eq_skeleton]
  unfold k0_part9_skel
  simp only [Prog.lift, Prog.bind_op, Prog.bind_ret, Prog.pure_eq_ret]
  refine chain (st_send m K c 11 (by decide) (by decide) (by decide) (by exact dev_eq c 11 rfl) (by rfl) (by rfl) (by rfl) (by rfl)) ?_
  refine chain (st_waitR m K c 4 (by decide) (by decide) (by rfl) (by rfl) (by rfl)) ?_
  refine chain (st_waitR m K c 5 (by decide) (by decide) (by rfl) (by rfl) (by rfl)) ?_
  refine chain (st_ldz m K c 0 0 (by decide) (by exact offZ_eq c 0 0)) ?_
  refine chain (st_ldr m K c 4 (by decide) (by rfl)) ?_
  refine chain (st_ldr m K c 5 (by decide) (by rfl)) ?_
  exact done c

theorem part10 {Q : PUnit → sProp 𝕄} (v2 v3 v4 : BitVec 32) :
    St m K c 2 4 0 0 12 12 0 6 ⊢ iprop((St m K c 2 4 1 1 14 14 0 6 -∗ Q ⟨⟩)
      -∗ WP c (onBufs (k0_part10 (F := F)) c v2 v3 v4 (k0_pay8 (zt m c 0 (qa c)) (up (lv' m c 0))) (k0_pay9 (up (lv' m c 8)))) Q) := by
  unfold onBufs
  rw [k0_part10_eq_skeleton]
  unfold k0_part10_skel
  simp only [Prog.lift, Prog.bind_op, Prog.bind_ret, Prog.pure_eq_ret]
  refine chain (st_puto m K c 0 (by exact offO_eq c 0) (by exact (ov_own m c 0).1.symm)) ?_
  refine chain (st_putg m K c 0 (by decide) (by decide) (by rfl) (by rfl)) ?_
  refine chain (st_send m K c 12 (by decide) (by decide) (by decide) (by exact dev_eq c 12 rfl) (by rfl) (by rfl) (by rfl) (by rfl)) ?_
  refine chain (st_send m K c 13 (by decide) (by decide) (by decide) (by exact dev_eq c 13 rfl) (by rfl) (by rfl) (by rfl) (by rfl)) ?_
  exact done c

theorem part11 {Q : FVec F S512x128 .f32 → sProp 𝕄} (v2 : BitVec 32) :
    St m K c 2 4 1 1 14 14 0 6 ⊢ iprop((St m K c 2 4 1 1 14 14 0 8 -∗ Q (k0_pay12 (zt m c 0 (qb c)) (up (lv' m c 4)) (up (lv' m c 10))))
      -∗ WP c (onBufs (k0_part11 (F := F)) c v2) Q) := by
  unfold onBufs
  rw [k0_part11_eq_skeleton]
  unfold k0_part11_skel
  simp only [Prog.lift, Prog.bind_op, Prog.bind_ret, Prog.pure_eq_ret]
  refine chain (st_waitR m K c 6 (by decide) (by decide) (by rfl) (by rfl) (by rfl)) ?_
  refine chain (st_waitR m K c 7 (by decide) (by decide) (by rfl) (by rfl) (by rfl)) ?_
  refine chain (st_ldz m K c 0 1 (by decide) (by exact offZ_eq c 0 1)) ?_
  refine chain (st_ldr m K c 6 (by decide) (by rfl)) ?_
  refine chain (st_ldr m K c 7 (by decide) (by rfl)) ?_
  exact done c

theorem part12 {Q : PUnit → sProp 𝕄} (v2 v3 v4 : BitVec 32) :
    St m K c 2 4 1 1 14 14 0 8 ⊢ iprop((St m K c 2 4 2 2 16 15 0 8 -∗ Q ⟨⟩)
      -∗ WP c (onBufs (k0_part12 (F := F)) c v2 v3 v4 (k0_pay12 (zt m c 0 (qb c)) (up (lv' m c 4)) (up (lv' m c 10)))) Q) := by
  unfold onBufs
  rw [k0_part12_eq_skeleton]
  unfold k0_part12_skel
  simp only [Prog.lift, Prog.bind_op, Prog.bind_ret, Prog.pure_eq_ret]
  refine chain (st_puto m K c 1 (by exact offO_eq c 1) (by exact (ov_own m c 0).2.symm)) ?_
  refine chain (st_putg m K c 1 (by decide) (by decide) (by rfl) (by rfl)) ?_
  refine chain (st_send m K c 14 (by decide) (by decide) (by decide) (by exact dev_eq c 14 rfl) (by rfl) (by rfl) (by rfl) (by rfl)) ?_
  exact done c

theorem part13 {Q : (Σ' (_ : FVec F S512x128 .f32), F .f32) → sProp 𝕄} (v2 : BitVec 32) :
    St m K c 2 4 2 2 16 15 0 8 ⊢ iprop((St m K c 2 4 2 2 16 16 0 10 -∗ Q ⟨(k0_pay15 (zt m c 1 (qa c)) (up (lv' m c 1)) (up (lv' m c 9))), (Scalar.ofBits .f32 0)⟩)
      -∗ WP c (onBufs (k0_part13 (F := F)) c v2) Q) := by
  unfold onBufs
  rw [k0_part13_eq_skeleton]
  unfold k0_part13_skel
  simp only [Prog.lift, Prog.bind_op, Prog.bind_ret, Prog.pure_eq_ret]
  refine chain (st_send m K c 15 (by decide) (by decide) (by decide) (by exact dev_eq c 15 rfl) (by rfl) (by rfl) (by rfl) (by rfl)) ?_
  refine chain (st_waitR m K c 8 (by decide) (by decide) (by rfl) (by rfl) (by rfl)) ?_
  refine chain (st_waitR m K c 9 (by decide) (by decide) (by rfl) (by rfl) (by rfl)) ?_
  refine chain (st_ldz m K c 1 0 (by decide) (by exact offZ_eq c 1 0)) ?_
  refine chain (st_ldr m K c 8 (by decide) (by rfl)) ?_
  refine chain (st_ldr m K c 9 (by decide) (by rfl)) ?_
  exact done c

theorem part14 {Q : PUnit → sProp 𝕄} (v2 v3 v4 : BitVec 32) :
    St m K c 2 4 2 2 16 16 0 10 ⊢ iprop((St m K c 2 4 3 3 18 18 0 10 -∗ Q ⟨⟩)
      -∗ WP c (onBufs (k0_part14 (F := F)) c v2 v3 v4 (k0_pay15 (zt m c 1 (qa c)) (up (lv' m c 1)) (up (lv' m c 9))) (Scalar.ofBits .f32 0)) Q) := by
  unfold onBufs
  rw [k0_part14_eq_skeleton]
  unfold k0_part14_skel
  simp only [Prog.lift, Prog.bind_op, Prog.bind_ret, Prog.pure_eq_ret]
  refine chain (st_puto m K c 2 (by exact offO_eq c 2) (by exact (ov_own m c 1).1.symm)) ?_
  refine chain (st_putg m K c 2 (by decide) (by decide) (by rfl) (by rfl)) ?_
  refine chain (st_send m K c 16 (by decide) (by decide) (by decide) (by exact dev_eq c 16 rfl) (by rfl) (by rfl) (by rfl) (by rfl)) ?_
  refine chain (st_send m K c 17 (by decide) (by decide) (by decide) (by exact dev_eq c 17 rfl) (by rfl) (by rfl) (by rfl) (by rfl)) ?_
  exact done c

theorem part15 {Q : (Σ' (_ : FVec F S512x128 .f32), FVec F S512x128 .f32) → sProp 𝕄} (v2 : BitVec 32) :
    St m K c 2 4 3 3 18 18 0 10 ⊢ iprop((St m K c 2 4 3 3 18 18 0 12 -∗ Q ⟨(k0_pay18 (zt m c 1 (qb c)) (up (lv' m c 5)) (up (lv' m c 11))), k0_pay19⟩)
      -∗ WP c (onBufs (k0_part15 (F := F)) c v2) Q) := by
  unfold onBufs
  rw [k0_part15_eq_skeleton]
  unfold k0_part15_skel
  simp only [Prog.lift, Prog.bind_op, Prog.bind_ret, Prog.pure_eq_ret]
  refine chain (st_waitR m K c 10 (by decide) (by decide) (by rfl) (by rfl) (by rfl)) ?_
  refine chain (st_waitR m K c 11 (by decide) (by decide) (by rfl) (by rfl) (by rfl)) ?_
  refine chain (st_ldz m K c 1 1 (by decide) (by exact offZ_eq c 1 1)) ?_
  refine chain (st_ldr m K c 10 (by decide) (by rfl)) ?_
  refine chain (st_ldr m K c 11 (by decide) (by rfl)) ?_
  exact done c

theorem part16 {Q : PUnit → sProp 𝕄} (v2 v3 v4 : BitVec 32) :
    St m K c 2 4 3 3 18 18 0 12 ⊢ iprop((St m K c 2 4 4 4 20 20 0 12 -∗ Q ⟨⟩)
      -∗ WP c (onBufs (k0_part16 (F := F)) c v2 v3 v4 (k0_pay18 (zt m c 1 (qb c)) (up (lv' m c 5)) (up (lv' m c 11))) k0_pay19) Q) := by
  unfold onBufs
  rw [k0_part16_eq_skeleton]
  unfold k0_part16_skel
  simp only [Prog.lift, Prog.bind_op, Prog.bind_ret, Prog.pure_eq_ret]
  refine chain (st_puto m K c 3 (by exact offO_eq c 3) (by exact (ov_own m c 1).2.symm)) ?_
  refine chain (st_putg m K c 3 (by decide) (by decide) (by rfl) (by rfl)) ?_
  refine chain (st_send m K c 18 (by decide) (by decide) (by decide) (by exact dev_eq c 18 rfl) (by rfl) (by rfl) (by rfl) (by rfl)) ?_
  refine chain (st_send m K c 19 (by decide) (by decide) (by decide) (by exact dev_eq c 19 rfl) (by rfl) (by rfl) (by rfl) (by rfl)) ?_
  exact done c

end Cert.Ring

end

end
-- ==== Proof.PartsB.lean ====
/-
# The parts of the kernel's body, second half

Each part of the body, from the state before it to the state after it.
-/
module

public import proofs.«01_k».proof.Proof.PartsA

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-- A block of the diagonal device, reached either way round. -/
theorem ov_dg (h : Fin 2) :
    k0_pay22 (up (sB m 0 (p2 (p1 c)) h)) = ov m c h (qa (dg c)) ∧ k0_pay22 (up (sB m 1 (p1 (p2 c)) h)) = ov m c h (qb (dg c)) := by
  rw [p2_p1, p1_p2]
  exact ⟨(ov_other m c h (dg c) (dg_ne c)).1.symm, (ov_other m c h (dg c) (dg_ne c)).2.symm⟩

theorem part17 {Q : PUnit → sProp 𝕄} (v2 v3 : BitVec 32) :
    St m K c 2 4 4 4 20 20 0 12 ⊢ iprop((St m K c 2 4 4 4 22 21 0 14 -∗ Q ⟨⟩)
      -∗ WP c (onBufs (k0_part17 (F := F)) c v2 v3) Q) := by
  unfold onBufs
  rw [k0_part17_eq_skeleton]
  unfold k0_part17_skel
  simp only [Prog.lift, Prog.bind_op, Prog.bind_ret, Prog.pure_eq_ret]
  refine chain (st_waitF m K c 20 12 (by decide) (by decide) (by decide) (by decide) (by decide) (by rfl) (by rfl) (by rfl) (by rfl)) ?_
  refine chain (st_send m K c 20 (by decide) (by decide) (by decide) (by exact dev_eq c 20 rfl) (by rfl) (by rfl) (by rfl) (by rfl)) ?_
  refine chain (st_waitF m K c 21 13 (by decide) (by decide) (by decide) (by decide) (by decide) (by rfl) (by rfl) (by rfl) (by rfl)) ?_
  exact done c

theorem part18 {Q : PUnit → sProp 𝕄} (v2 v3 v4 : BitVec 32) :
    St m K c 2 4 4 4 22 21 0 14 ⊢ iprop((St m K c 2 4 4 6 22 22 0 14 -∗ Q ⟨⟩)
      -∗ WP c (onBufs (k0_part18 (F := F)) c v2 v3 v4) Q) := by
  unfold onBufs
  rw [k0_part18_eq_skeleton]
  unfold k0_part18_skel
  simp only [Prog.lift, Prog.bind_op, Prog.bind_ret, Prog.pure_eq_ret]
  refine chain (st_send m K c 21 (by decide) (by decide) (by decide) (by exact dev_eq c 21 rfl) (by rfl) (by rfl) (by rfl) (by rfl)) ?_
  refine chain (st_ldr m K c 12 (by decide) (by rfl)) ?_
  refine chain (st_puto m K c 4 (by exact offO_eq c 4) (by exact (ov_other m c 0 (p2 c) (p2_ne c)).1.symm)) ?_
  refine chain (st_ldr m K c 13 (by decide) (by rfl)) ?_
  refine chain (st_puto m K c 5 (by exact offO_eq c 5) (by exact (ov_other m c 0 (p1 c) (p1_ne c)).2.symm)) ?_
  exact done c

theorem part19 {Q : PUnit → sProp 𝕄} (v2 v3 v4 : BitVec 32) :
    St m K c 2 4 4 6 22 22 0 14 ⊢ iprop((St m K c 2 4 4 8 22 22 0 16 -∗ Q ⟨⟩)
      -∗ WP c (onBufs (k0_part19 (F := F)) c v2 v3 v4) Q) := by
  unfold onBufs
  rw [k0_part19_eq_skeleton]
  unfold k0_part19_skel
  simp only [Prog.lift, Prog.bind_op, Prog.bind_ret, Prog.pure_eq_ret]
  refine chain (st_waitR m K c 14 (by decide) (by decide) (by rfl) (by rfl) (by rfl)) ?_
  refine chain (st_ldr m K c 14 (by decide) (by rfl)) ?_
  refine chain (st_puto m K c 6 (by exact offO_eq c 6) (by exact (ov_other m c 0 (p1 c) (p1_ne c)).1.symm)) ?_
  refine chain (st_waitR m K c 15 (by decide) (by decide) (by rfl) (by rfl) (by rfl)) ?_
  refine chain (st_ldr m K c 15 (by decide) (by rfl)) ?_
  refine chain (st_puto m K c 7 (by exact offO_eq c 7) (by exact (ov_other m c 0 (p2 c) (p2_ne c)).2.symm)) ?_
  exact done c

theorem part20 {Q : PUnit → sProp 𝕄} (v2 v3 v4 : BitVec 32) :
    St m K c 2 4 4 8 22 22 0 16 ⊢ iprop((St m K c 2 4 4 10 22 22 0 18 -∗ Q ⟨⟩)
      -∗ WP c (onBufs (k0_part20 (F := F)) c v2 v3 v4) Q) := by
  unfold onBufs
  rw [k0_part20_eq_skeleton]
  unfold k0_part20_skel
  simp only [Prog.lift, Prog.bind_op, Prog.bind_ret, Prog.pure_eq_ret]
  refine chain (st_waitR m K c 16 (by decide) (by decide) (by rfl) (by rfl) (by rfl)) ?_
  refine chain (st_ldr m K c 16 (by decide) (by rfl)) ?_
  refine chain (st_puto m K c 8 (by exact offO_eq c 8) (by exact (ov_dg m c 0).1)) ?_
  refine chain (st_waitR m K c 17 (by decide) (by decide) (by rfl) (by rfl) (by rfl)) ?_
  refine chain (st_ldr m K c 17 (by decide) (by rfl)) ?_
  refine chain (st_puto m K c 9 (by exact offO_eq c 9) (by exact (ov_dg m c 0).2)) ?_
  exact done c

theorem part21 {Q : PUnit → sProp 𝕄} (v2 v3 : BitVec 32) :
    St m K c 2 4 4 10 22 22 0 18 ⊢ iprop((St m K c 2 4 4 10 24 23 0 20 -∗ Q ⟨⟩)
      -∗ WP c (onBufs (k0_part21 (F := F)) c v2 v3) Q) := by
  unfold onBufs
  rw [k0_part21_eq_skeleton]
  unfold k0_part21_skel
  simp only [Prog.lift, Prog.bind_op, Prog.bind_ret, Prog.pure_eq_ret]
  refine chain (st_waitF m K c 22 18 (by decide) (by decide) (by decide) (by decide) (by decide) (by rfl) (by rfl) (by rfl) (by rfl)) ?_
  refine chain (st_send m K c 22 (by decide) (by decide) (by decide) (by exact dev_eq c 22 rfl) (by rfl) (by rfl) (by rfl) (by rfl)) ?_
  refine chain (st_waitF m K c 23 19 (by decide) (by decide) (by decide) (by decide) (by decide) (by rfl) (by rfl) (by rfl) (by rfl)) ?_
  exact done c

theorem part22 {Q : PUnit → sProp 𝕄} (v2 v3 v4 : BitVec 32) :
    St m K c 2 4 4 10 24 23 0 20 ⊢ iprop((St m K c 2 4 4 12 24 24 0 20 -∗ Q ⟨⟩)
      -∗ WP c (onBufs (k0_part22 (F := F)) c v2 v3 v4) Q) := by
  unfold onBufs
  rw [k0_part22_eq_skeleton]
  unfold k0_part22_skel
  simp only [Prog.lift, Prog.bind_op, Prog.bind_ret, Prog.pure_eq_ret]
  refine chain (st_send m K c 23 (by decide) (by decide) (by decide) (by exact dev_eq c 23 rfl) (by rfl) (by rfl) (by rfl) (by rfl)) ?_
  refine chain (st_ldr m K c 18 (by decide) (by rfl)) ?_
  refine chain (st_puto m K c 10 (by exact offO_eq c 10) (by exact (ov_other m c 1 (p2 c) (p2_ne c)).1.symm)) ?_
  refine chain (st_ldr m K c 19 (by decide) (by rfl)) ?_
  refine chain (st_puto m K c 11 (by exact offO_eq c 11) (by exact (ov_other m c 1 (p1 c) (p1_ne c)).2.symm)) ?_
  exact done c

theorem part23 {Q : PUnit → sProp 𝕄} (v2 v3 v4 : BitVec 32) :
    St m K c 2 4 4 12 24 24 0 20 ⊢ iprop((St m K c 2 4 4 14 24 24 0 22 -∗ Q ⟨⟩)
      -∗ WP c (onBufs (k0_part23 (F := F)) c v2 v3 v4) Q) := by
  unfold onBufs
  rw [k0_part23_eq_skeleton]
  unfold k0_part23_skel
  simp only [Prog.lift, Prog.bind_op, Prog.bind_ret, Prog.pure_eq_ret]
  refine chain (st_waitR m K c 20 (by decide) (by decide) (by rfl) (by rfl) (by rfl)) ?_
  refine chain (st_ldr m K c 20 (by decide) (by rfl)) ?_
  refine chain (st_puto m K c 12 (by exact offO_eq c 12) (by exact (ov_other m c 1 (p1 c) (p1_ne c)).1.symm)) ?_
  refine chain (st_waitR m K c 21 (by decide) (by decide) (by rfl) (by rfl) (by rfl)) ?_
  refine chain (st_ldr m K c 21 (by decide) (by rfl)) ?_
  refine chain (st_puto m K c 13 (by exact offO_eq c 13) (by exact (ov_other m c 1 (p2 c) (p2_ne c)).2.symm)) ?_
  exact done c

theorem part24 {Q : PUnit → sProp 𝕄} (v2 v3 v4 : BitVec 32) :
    St m K c 2 4 4 14 24 24 0 22 ⊢ iprop((St m K c 2 4 4 16 24 24 0 24 -∗ Q ⟨⟩)
      -∗ WP c (onBufs (k0_part24 (F := F)) c v2 v3 v4) Q) := by
  unfold onBufs
  rw [k0_part24_eq_skeleton]
  unfold k0_part24_skel
  simp only [Prog.lift, Prog.bind_op, Prog.bind_ret, Prog.pure_eq_ret]
  refine chain (st_waitR m K c 22 (by decide) (by decide) (by rfl) (by rfl) (by rfl)) ?_
  refine chain (st_ldr m K c 22 (by decide) (by rfl)) ?_
  refine chain (st_puto m K c 14 (by exact offO_eq c 14) (by exact (ov_dg m c 1).1)) ?_
  refine chain (st_waitR m K c 23 (by decide) (by decide) (by rfl) (by rfl) (by rfl)) ?_
  refine chain (st_ldr m K c 23 (by decide) (by rfl)) ?_
  refine chain (st_puto m K c 15 (by exact offO_eq c 15) (by exact (ov_dg m c 1).2)) ?_
  exact done c

theorem part25 {Q : PUnit → sProp 𝕄} :
    St m K c 2 4 4 16 24 24 0 24 ⊢ iprop((St m K c 2 4 4 16 24 24 5 24 -∗ Q ⟨⟩)
      -∗ WP c (onBufs (k0_part25 (F := F)) c) Q) := by
  unfold onBufs
  rw [k0_part25_eq_skeleton]
  unfold k0_part25_skel
  simp only [Prog.lift, Prog.bind_op, Prog.bind_ret, Prog.pure_eq_ret]
  refine chain (st_waitS m K c 0 (by decide) (by rfl) (by rfl)) ?_
  refine chain (st_waitS m K c 1 (by decide) (by rfl) (by rfl)) ?_
  refine chain (st_waitS m K c 2 (by decide) (by rfl) (by rfl)) ?_
  refine chain (st_waitS m K c 3 (by decide) (by rfl) (by rfl)) ?_
  refine chain (st_waitS m K c 4 (by decide) (by rfl) (by rfl)) ?_
  exact done c

theorem part26 {Q : PUnit → sProp 𝕄} :
    St m K c 2 4 4 16 24 24 5 24 ⊢ iprop((St m K c 2 4 4 16 24 24 9 24 -∗ Q ⟨⟩)
      -∗ WP c (onBufs (k0_part26 (F := F)) c) Q) := by
  unfold onBufs
  rw [k0_part26_eq_skeleton]
  unfold k0_part26_skel
  simp only [Prog.lift, Prog.bind_op, Prog.bind_ret, Prog.pure_eq_ret]
  refine chain (st_waitS m K c 5 (by decide) (by rfl) (by rfl)) ?_
  refine chain (st_waitS m K c 6 (by decide) (by rfl) (by rfl)) ?_
  refine chain (st_waitS m K c 7 (by decide) (by rfl) (by rfl)) ?_
  refine chain (st_waitS m K c 8 (by decide) (by rfl) (by rfl)) ?_
  exact done c

theorem part27 {Q : PUnit → sProp 𝕄} :
    St m K c 2 4 4 16 24 24 9 24 ⊢ iprop((St m K c 2 4 4 16 24 24 13 24 -∗ Q ⟨⟩)
      -∗ WP c (onBufs (k0_part27 (F := F))) Q) := by
  unfold onBufs
  rw [k0_part27_eq_skeleton]
  unfold k0_part27_skel
  simp only [Prog.lift, Prog.bind_op, Prog.bind_ret, Prog.pure_eq_ret]
  refine chain (st_waitS m K c 9 (by decide) (by rfl) (by rfl)) ?_
  refine chain (st_waitS m K c 10 (by decide) (by rfl) (by rfl)) ?_
  refine chain (st_waitS m K c 11 (by decide) (by rfl) (by rfl)) ?_
  refine chain (st_waitS m K c 12 (by decide) (by rfl) (by rfl)) ?_
  exact done c

theorem part28 {Q : PUnit → sProp 𝕄} :
    St m K c 2 4 4 16 24 24 13 24 ⊢ iprop((St m K c 2 4 4 16 24 24 17 24 -∗ Q ⟨⟩)
      -∗ WP c (onBufs (k0_part28 (F := F))) Q) := by
  unfold onBufs
  rw [k0_part28_eq_skeleton]
  unfold k0_part28_skel
  simp only [Prog.lift, Prog.bind_op, Prog.bind_ret, Prog.pure_eq_ret]
  refine chain (st_waitS m K c 13 (by decide) (by rfl) (by rfl)) ?_
  refine chain (st_waitS m K c 14 (by decide) (by rfl) (by rfl)) ?_
  refine chain (st_waitS m K c 15 (by decide) (by rfl) (by rfl)) ?_
  refine chain (st_waitS m K c 16 (by decide) (by rfl) (by rfl)) ?_
  exact done c

theorem part29 {Q : PUnit → sProp 𝕄} :
    St m K c 2 4 4 16 24 24 17 24 ⊢ iprop((St m K c 2 4 4 16 24 24 21 24 -∗ Q ⟨⟩)
      -∗ WP c (onBufs (k0_part29 (F := F))) Q) := by
  unfold onBufs
  rw [k0_part29_eq_skeleton]
  unfold k0_part29_skel
  simp only [Prog.lift, Prog.bind_op, Prog.bind_ret, Prog.pure_eq_ret]
  refine chain (st_waitS m K c 17 (by decide) (by rfl) (by rfl)) ?_
  refine chain (st_waitS m K c 18 (by decide) (by rfl) (by rfl)) ?_
  refine chain (st_waitS m K c 19 (by decide) (by rfl) (by rfl)) ?_
  refine chain (st_waitS m K c 20 (by decide) (by rfl) (by rfl)) ?_
  exact done c

end Cert.Ring

end

end
-- ==== Proof.Start.lean ====
/-
# The start of the body

The handshake with the two partners, the block of `B`, and the first half of the product.
-/
module

public import proofs.«01_k».proof.Proof.PartsB

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-! ## Before the handshake -/

/-- What a device holds for copy `j` before the handshake: its place at the send cell and the two tokens it pays with. -/
def sTok (j : Fin 24) : sProp 𝕄 :=
  iprop(atPos ER (sendCell c j) 0 ∅ 0 ∗ dutyTok ER (sendCell c j) 0 false ∗ dutyTok ER (recvCell (peer j c) j) 0 false)

/-- What a device holds of the barrier: the two tokens it pays with, its place, and the credit it waits for. -/
def barTok : sProp 𝕄 :=
  iprop(dutyTok ER (barCell (p1 c)) 0 true ∗ dutyTok ER (barCell (p2 c)) 0 false ∗ atPos ER (barCell c) 0 ∅ 0 ∗ cred (tallyAt (barCell c) () 2))

/-- The buffers before the first store: every slot that copies land in, the pieces of the scratch buffers and of the result. -/
def bufs : sProp 𝕄 :=
  iprop((bigSep Finset.univ fun j : Fin 24 => ownX c (dstM j)) ∗ bigSep Finset.univ (zAt m c 0) ∗ bigSep Finset.univ (sbAt (F := F) c 0)
    ∗ bigSep Finset.univ (agAt (F := F) c 0) ∗ bigSep Finset.univ (oAt m c 0) ∗ ownX (F := F) c bbM)

/-- What a device starts from. -/
def Pre : sProp 𝕄 :=
  iprop(Recs m K ∗ levAts L lv ∗ (∃ W, owes (c : Thread nD τ) (owe₀ c) W) ∗ barTok c ∗ (bigSep Finset.univ (sTok (F := F) c))
    ∗ bigSep Finset.univ (rAt m c 0) ∗ bufs m c
    ∗ (((c : Thread nD τ).loc cc0_stg0_0) ↦{fullShare} aStg m c) ∗ (((c : Thread nD τ).loc cc0_stg1_0) ↦{fullShare} bStg m c))

/-- With the partners' slots in hand every copy is prepared. -/
theorem sAt_start : iprop((bigSep Finset.univ (sTok (F := F) c)) ∗ bigSep Finset.univ fun j : Fin 24 => ownX (peer j c) (dstM j))
    ⊢ bigSep Finset.univ (sAt m c 0 0 0) := by
  have e : bigSep Finset.univ (sAt m c 0 0 0) = bigSep Finset.univ (sPre (F := F) c) := by
    rw [bigSep_univ_equiv sPerm (sPre (F := F) c)]
    refine bigSep_congr fun p _ => ?_
    unfold sAt
    rw [if_neg (Nat.not_lt_zero _), if_neg (Nat.not_lt_zero _), if_neg (Nat.not_lt_zero _)]
    rfl
  have hj : ∀ j : Fin 24, iprop(sTok (F := F) c j ∗ ownX (peer j c) (dstM j)) ⊢ sPre c j := by
    intro j
    unfold sTok sPre
    iintro ⟨⟨H1, H2, H3⟩, H4⟩
    isplitl [H1]; · iexact H1
    isplitl [H2]; · iexact H2
    isplitl [H3] <;> iassumption
  rw [e, ← bigSep_sep']
  exact bigSep_mono fun j _ => hj j

theorem zero2 : (![0, 0] : Fin 2 → ℕ) = fun _ => 0 := funext fun a => by fin_cases a <;> rfl

/-- Signalling both partners and waiting for both: every copy is prepared, and the barrier cell is closed. -/
theorem st_shake {α : Type} {Q : α → sProp 𝕄} {n1 n2 : Dev nD} (h1 : n1 = p1 c) (h2 : n2 = p2 c)
    {k' : PUnit → Prog (TpuEff nD τ sig (Elt F) Λ₀ .tc) α} :
    iprop(Recs m K ∗ levAts L lv ∗ (∃ W, owes (c : Thread nD τ) (owe₀ c) W) ∗ barTok c ∗ (bigSep Finset.univ (sTok (F := F) c))
        ∗ bigSep Finset.univ fun j : Fin 24 => ownX c (dstM j))
      ⊢ iprop((Recs m K ∗ levAts L lv ∗ owesK c 0 ∗ semVal (barCell c) 0 ∗ bigSep Finset.univ (sAt m c 0 0 0) -∗ WP c (k' ⟨⟩) Q)
      -∗ WP c (semSignalWord n1 barS 1#32 >>= fun _ => semSignalWord n2 barS 1#32 >>= fun _ => semWaitWord barS 2#32 >>= k') Q) := by
  subst h1 h2
  simp only [semSignalWord, semWaitWord, Prog.lift, Prog.bind_op, Prog.bind_ret, Prog.pure_eq_ret]
  unfold barTok owesK
  iintro ⟨#HR, #HL, ⟨%W, HO⟩, ⟨Ht1, Ht2, Hat, Hcr⟩, HS, Hd⟩ Hk
  ihave Hd := (Entails.of_eq (slots_eq (F := F) c)) $$ Hd
  icases Hd with ⟨Hd1, Hd2⟩
  ihave #H1 := (Recs_at m K (p1 c, none)) $$ HR
  icases H1 with ⟨#Hi1, #Hre1⟩
  ihave #H2 := (Recs_at m K (p2 c, none)) $$ HR
  icases H2 with ⟨#Hi2, #Hre2⟩
  ihave #H3 := (Recs_at m K (c, none)) $$ HR
  icases H3 with ⟨#Hi3, #Hre3⟩
  iapply (Rounds.wp_signal 𝒱₀ ER (Rd m) (c : Thread nD τ) none (dst := (p1 c : Thread nD τ)) (κ := K (p1 c, none)) (d := true)
      (by rw [duties_bar]; exact Finset.mem_univ _) ((amount_bar m (p1 c) true).trans (by decide)) () (owe₁ c) rfl) $$ [HO Ht1 Hd1]
  · isplitr; · iexact Hi1
    isplitl [HO]; · iexact HO
    isplitl [Ht1]; · iexact Ht1
    isplitl [Hd1]; · rw [payload_bar]; iexact Hd1
    iexact Hre1
  iintro HO
  iapply (Rounds.wp_signal 𝒱₀ ER (Rd m) (c : Thread nD τ) none (dst := (p2 c : Thread nD τ)) (κ := K (p2 c, none)) (d := false)
      (by rw [duties_bar]; exact Finset.mem_univ _) ((amount_bar m (p2 c) false).trans (by decide)) () (owe c 0) rfl) $$ [HO Ht2 Hd2]
  · isplitr; · iexact Hi2
    isplitl [HO]; · iexact HO
    isplitl [Ht2]; · iexact Ht2
    isplitl [Hd2]; · rw [payload_bar]; iexact Hd2
    iexact Hre2
  iintro HO
  iapply (Rounds.wp_wait_rest_token 𝒱₀ ER (Rd m) (c : Thread nD τ) none (κ := K (c, none))
      (wpE_semWait_eq 𝒱₀ (c : Thread nD τ) none Set.univ) (Set.mem_univ _) () (O := owe c 0) (W := W) (R := 0) (m := 0) (T := ∅)
      (by rw [expect_bar]; decide)) $$ [Hcr HO Hat]
  · isplitr; · iexact Hi3
    isplitl [Hcr]; · iexact Hcr
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hv
  · isplitr; · iexact Hi3
    iexact Hat
  iapply Hk
  isplitr; · iexact HR
  isplitr; · iexact HL
  isplitl [HO]; · iexists _; iexact HO
  isplitl [Hv]; · iexact Hv
  iapply (sAt_start m c)
  isplitl [HS] <;> iassumption

/-- The staged block of `B` is read. -/
theorem ld_B {α : Type} {Q : α → sProp 𝕄} {inb hl} {k' : (S512x1024.Idx → Elt F .f32) → Prog (TpuEff nD τ sig (Elt F) Λ₀ .tc) α} :
    (((c : Thread nD τ).loc cc0_stg1_0) ↦{fullShare} bStg m c : sProp 𝕄)
      ⊢ iprop(((((c : Thread nD τ).loc cc0_stg1_0) ↦{fullShare} bStg m c) -∗ WP c (k' (bStg m c)) Q)
      -∗ WP c (.op (.load bM (Rect.unit (s := S512x1024) ![0, 0] S512x1024.size inb).toLoadRect hl) k') Q) := by
  have e : bM.view.readAt (Elt F) (Rect.unit (s := S512x1024) ![0, 0] S512x1024.size inb).toLoadRect (bStg m c) = bStg m c :=
    Memref.readAt_unit_zero (Elt F) cc0_stg1_0 zero2 _ _
  have hl' := wp_load (defs := defs₀ (F := F)) (Name := ℕ) (U := UU) (Lvl := ℕ) (Ix := Unit) (Γ := []) (Q := Q) 𝒱₀ (c : Thread nD τ) none Set.univ
    (m := bM) (hl := hl) (k := k') (S := Finset.univ) (q := fullShare) (f := bStg m c) (Finset.subset_univ _)
  rw [e] at hl'
  exact hl'

/-- A store into a held buffer, over a load that nothing reads: the buffer holds what a read of it then gives. -/
theorem put_over {α : Type} {Q : α → sProp 𝕄} {s : Shape} {e : EltTy} {M : Memref sig .tc .vmem s e} {r : Rect s} {w : r.shape.Idx → Elt F e} {v : s.Idx → Elt F e}
    (hw : ∀ f : Buf (Elt F) (M.view.loc (c : Thread nD τ)), M.view.read (Elt F) ((M.access r).write (Elt F) f w Finset.univ) = v)
    {hl : M.view.LoadsAt r.toLoadRect} {hx : (M.access r).Stores Finset.univ} {hm} {k : PUnit → Prog (TpuEff nD τ sig (Elt F) Λ₀ .tc) α} :
    ownX (F := F) c M ⊢ iprop((own c M fullShare v -∗ WP c (k ⟨⟩) Q)
      -∗ WP c (.op (.load M r.toLoadRect hl) fun _ => .op (.store M r w Finset.univ hx hm) k) Q) := by
  unfold ownX
  iintro ⟨%f, H⟩ Hk
  iapply (wp_load (Γ := []) 𝒱₀ (c : Thread nD τ) none Set.univ (m := M) (S := M.view.set) (View.setOn_subset_set _ _)) $$ H
  iintro H
  iapply (wp_store (Γ := []) 𝒱₀ (c : Thread nD τ) none Set.univ (m := M) (S := M.view.set) (r := r) (Mk := Finset.univ)
    ((View.setOn_subset_set _ _).trans (View.set_slice_subset M.view r))) $$ H
  iintro H
  ihave H := (Entails.of_eq (own_of_read c M fullShare v _ (hw f))) $$ H
  iapply Hk
  iexact H

/-- The block of `B` in the short format is stored. -/
theorem put_bb {α : Type} {Q : α → sProp 𝕄} {w : Vec F S512x1024 .bf16} {inb inb' hl hx hm} {k' : PUnit → Prog (TpuEff nD τ sig (Elt F) Λ₀ .tc) α} :
    ownX (F := F) c bbM ⊢ iprop((own c bbM fullShare w -∗ WP c (k' ⟨⟩) Q)
      -∗ WP c (.op (.load bbM (Rect.unit (s := S512x1024) ![0, 0] S512x1024.size inb).toLoadRect hl) fun _ =>
          .op (.store bbM (Rect.unit (s := S512x1024) ![0, 0] S512x1024.size inb') w Finset.univ hx hm) k') Q) :=
  put_over c (M := bbM) (r := Rect.unit (s := S512x1024) ![0, 0] S512x1024.size inb') (w := w) (v := w)
    fun f => (congrArg (bbM.view.read (Elt F)) (Memref.write_access_unit_zero_univ (Elt F) cc0_scratch1 zero2 _ f w)).trans rfl

/-- With both, the state proper begins. -/
theorem st_first {α : Type} {Q : α → sProp 𝕄} {inb1 inb2 inb3 hl1 hl2 hx hm} {k' : PUnit → Prog (TpuEff nD τ sig (Elt F) Λ₀ .tc) α} :
    iprop((bigSep Finset.univ (rAt m c 0) ∗ (bigSep Finset.univ (zAt m c 0) ∗ bigSep Finset.univ (sbAt (F := F) c 0)
        ∗ bigSep Finset.univ (agAt (F := F) c 0) ∗ bigSep Finset.univ (oAt m c 0) ∗ ownX (F := F) c bbM)
        ∗ (((c : Thread nD τ).loc cc0_stg0_0) ↦{fullShare} aStg m c) ∗ (((c : Thread nD τ).loc cc0_stg1_0) ↦{fullShare} bStg m c))
        ∗ (Recs m K ∗ levAts L lv ∗ owesK c 0 ∗ semVal (barCell c) 0 ∗ bigSep Finset.univ (sAt m c 0 0 0)))
      ⊢ iprop((semVal (barCell c) 0 ∗ St m K c 0 0 0 0 0 0 0 0 -∗ WP c (k' ⟨⟩) Q)
      -∗ WP c (.op (.load bM (Rect.unit (s := S512x1024) ![0, 0] S512x1024.size inb1).toLoadRect hl1) fun v =>
          .op (.load bbM (Rect.unit (s := S512x1024) ![0, 0] S512x1024.size inb2).toLoadRect hl2) fun _ =>
          .op (.store bbM (Rect.unit (s := S512x1024) ![0, 0] S512x1024.size inb3) (k0_pay1 v) Finset.univ hx hm) k') Q) := by
  unfold St args
  iintro ⟨⟨Hr, ⟨Hz, Hb, Hg, Ho, Hbb⟩, Ha, Ha'⟩, HR, HL, HO, Hv, HS⟩ Hk
  iapply (ld_B m c) $$ [Ha']
  · iexact Ha'
  iintro Ha'
  iapply (put_bb c) $$ [Hbb]
  · iexact Hbb
  iintro Hbb
  iapply Hk
  isplitl [Hv]; · iexact Hv
  isplitl [HR]; · iexact HR
  isplitl [HL]; · iexact HL
  isplitl [HO]; · iexact HO
  isplitl [HS]; · iexact HS
  isplitl [Hr]; · iexact Hr
  isplitl [Hz]; · iexact Hz
  isplitl [Hb]; · iexact Hb
  isplitl [Hg]; · iexact Hg
  isplitl [Ho]; · iexact Ho
  isplitl [Ha]; · iexact Ha
  isplitl [Ha']; · iexact Ha'
  iexact Hbb

/-- A state step under a piece that is left alone. -/
theorem beside {P A B X Y : sProp 𝕄} (h : A ⊢ iprop((B -∗ X) -∗ Y)) : iprop(P ∗ A) ⊢ iprop((P ∗ B -∗ X) -∗ Y) := by
  iintro ⟨HP, HA⟩ Hk
  iapply h $$ HA
  iintro HB
  iapply Hk
  isplitl [HP] <;> iassumption

/-- The handshake, the block of `B`, the first half of the product. -/
theorem part1 {Q : (Σ' (_ : Dev nD) (_ : BitVec 32) (_ : BitVec 32) (_ : BitVec 32), BitVec 32) → sProp 𝕄} :
    Pre m K c ⊢ iprop((semVal (barCell c) 0 ∗ St m K c 1 0 0 0 4 0 0 0
        -∗ Q ⟨c, Scalar.remsi (Scalar.divsi (Dev.word c) 1#32) 4#32, Scalar.xori (Scalar.remsi (Scalar.divsi (Dev.word c) 1#32) 4#32) 1#32,
          Scalar.subi 3#32 (Scalar.remsi (Scalar.divsi (Dev.word c) 1#32) 4#32),
          Scalar.xori (Scalar.subi 3#32 (Scalar.remsi (Scalar.divsi (Dev.word c) 1#32) 4#32)) 1#32⟩)
      -∗ WP c (onBufs (k0_part1 (F := F))) Q) := by
  unfold onBufs
  rw [k0_part1_eq_skeleton]
  unfold k0_part1_skel
  simp only [Prog.lift, Prog.bind_op, Prog.bind_ret, Prog.pure_eq_ret]
  unfold WP
  rw [wp_deviceId]
  have h0 : Pre m K c ⊢ iprop((bigSep Finset.univ (rAt m c 0) ∗ (bigSep Finset.univ (zAt m c 0) ∗ bigSep Finset.univ (sbAt (F := F) c 0)
        ∗ bigSep Finset.univ (agAt (F := F) c 0) ∗ bigSep Finset.univ (oAt m c 0) ∗ ownX (F := F) c bbM)
        ∗ (((c : Thread nD τ).loc cc0_stg0_0) ↦{fullShare} aStg m c) ∗ (((c : Thread nD τ).loc cc0_stg1_0) ↦{fullShare} bStg m c))
        ∗ (Recs m K ∗ levAts L lv ∗ (∃ W, owes (c : Thread nD τ) (owe₀ c) W) ∗ barTok c ∗ (bigSep Finset.univ (sTok (F := F) c))
        ∗ bigSep Finset.univ fun j : Fin 24 => ownX c (dstM j))) := by
    unfold Pre bufs
    iintro ⟨HR, HL, HO, HT, HS, Hr, ⟨Hd, Hb⟩, Ha⟩
    isplitl [Hr Hb Ha]
    · isplitl [Hr]; · iexact Hr
      isplitl [Hb] <;> iassumption
    isplitl [HR]; · iexact HR
    isplitl [HL]; · iexact HL
    isplitl [HO]; · iexact HO
    isplitl [HT]; · iexact HT
    isplitl [HS] <;> iassumption
  refine h0.trans ?_
  refine chain (beside (st_shake m K c (Fin.ext (devs_signal c).1) (Fin.ext (devs_signal c).2))) ?_
  refine chain (st_first m K c) ?_
  refine beside ?_
  refine chain (st_lda m K c 0) ?_
  refine chain (st_ldb m K c) ?_
  refine chain (st_putz m K c 0 (by decide) (by decide) (by rfl)) ?_
  exact done c

end Cert.Ring

end

end
-- ==== Proof.Whole.lean ====
/-
# The whole body

The parts in a row, from the start to the state in which every copy is complete.
-/
module

public import proofs.«01_k».proof.Proof.Start

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-- A part of a program, and what comes after it. -/
theorem chainB {α β : Type} {A B R : sProp 𝕄} {Q : β → sProp 𝕄} {x : α} {p : Prog (TpuEff nD τ sig (Elt F) Λ₀ .tc) α}
    {k : α → Prog (TpuEff nD τ sig (Elt F) Λ₀ .tc) β}
    (h₁ : ∀ Q' : α → sProp 𝕄, A ⊢ iprop((B -∗ Q' x) -∗ WP c p Q')) (h₂ : B ⊢ iprop(R -∗ WP c (k x) Q)) :
    A ⊢ iprop(R -∗ WP c (p >>= k) Q) := by
  have e : WP c (p >>= k) Q = WP c p fun x => WP c (k x) Q := by unfold WP; rw [wp_bind]
  rw [e]
  exact chain (h₁ _) h₂

/-- All parts, to the waits for the last copies. -/
theorem part30 {Q : PUnit → sProp 𝕄} :
    Pre m K c ⊢ iprop((semVal (barCell c) 0 ∗ St m K c 2 4 4 16 24 24 23 24 -∗ Q ⟨⟩) -∗ WP c (onBufs (k0_part30 (F := F))) Q) := by
  unfold onBufs
  rw [k0_part30_eq_skeleton]
  unfold k0_part30_skel
  simp only [Prog.lift, Prog.bind_op, Prog.bind_ret, Prog.pure_eq_ret]
  refine chainB c (fun _ => part1 m K c) (beside ?_)
  refine chainB c (fun _ => part2 m K c _ _ _) ?_
  refine chainB c (fun _ => part3 m K c _ _) ?_
  refine chainB c (fun _ => part4 m K c _ _ _) ?_
  refine chainB c (fun _ => part5 m K c _ _) ?_
  refine chainB c (fun _ => part6 m K c _ _) ?_
  refine chainB c (fun _ => part7 m K c _ _) ?_
  refine chainB c (fun _ => part8 m K c _ _) ?_
  refine chainB c (fun _ => part9 m K c _) ?_
  refine chainB c (fun _ => part10 m K c _ _ _) ?_
  refine chainB c (fun _ => part11 m K c _) ?_
  refine chainB c (fun _ => part12 m K c _ _ _) ?_
  refine chainB c (fun _ => part13 m K c _) ?_
  refine chainB c (fun _ => part14 m K c _ _ _) ?_
  refine chainB c (fun _ => part15 m K c _) ?_
  refine chainB c (fun _ => part16 m K c _ _ _) ?_
  refine chainB c (fun _ => part17 m K c _ _) ?_
  refine chainB c (fun _ => part18 m K c _ _ _) ?_
  refine chainB c (fun _ => part19 m K c _ _ _) ?_
  refine chainB c (fun _ => part20 m K c _ _ _) ?_
  refine chainB c (fun _ => part21 m K c _ _) ?_
  refine chainB c (fun _ => part22 m K c _ _ _) ?_
  refine chainB c (fun _ => part23 m K c _ _ _) ?_
  refine chainB c (fun _ => part24 m K c _ _ _) ?_
  refine chainB c (fun _ => part25 m K c) ?_
  refine chainB c (fun _ => part26 m K c) ?_
  refine chainB c (fun _ => part27 m K c) ?_
  refine chainB c (fun _ => part28 m K c) ?_
  refine chainB c (fun _ => part29 m K c) ?_
  refine chain (st_waitS m K c 21 (by decide) (by rfl) (by rfl)) ?_
  refine chain (st_waitS m K c 22 (by decide) (by rfl) (by rfl)) ?_
  exact done c

/-- The whole body. -/
theorem whole_body {Q : PUnit → sProp 𝕄} :
    Pre m K c ⊢ iprop((semVal (barCell c) 0 ∗ St m K c 2 4 4 16 24 24 24 24 -∗ Q ⟨⟩) -∗ WP c (onBufs (cc0_body (F := F))) Q) := by
  unfold onBufs
  rw [cc0_body_eq_skeleton]
  unfold cc0_body_skel
  simp only [Prog.lift, Prog.bind_op, Prog.bind_ret, Prog.pure_eq_ret]
  refine chainB c (fun _ => part30 m K c) (beside ?_)
  refine chain (st_waitS m K c 23 (by decide) (by rfl) (by rfl)) ?_
  exact done c

end Cert.Ring

end

end
-- ==== Proof.Ends.lean ====
/-
# The two ends of the body

Before the body the buffers are whole, each at some contents. They are cut into the pieces the steps work on. After the
last wait every piece is back, and the pieces make the buffers again; the tiles of the result make the result.
-/
module

public import proofs.«01_k».proof.Proof.Pieces
public import proofs.«01_k».proof.Proof.Whole

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-- The seven scratch buffers, each at some contents. -/
def work : sProp 𝕄 :=
  iprop(ownX c zM ∗ ownX c bbM ∗ ownX c sbM ∗ ownX c r1M ∗ ownX c r2M ∗ ownX c agM ∗ ownX c alM)

/-! ## Cutting the buffers -/

set_option backward.proofsInPublic true in
/-- The order in which partial sums, finished blocks and tiles of the result are stored, as pieces of their buffers. -/
def sbPc (n : Fin 4) : Fin 2 × Fin 2 := (⟨n.val % 2, by omega⟩, ⟨n.val / 2, by omega⟩)
theorem sbPc_bij : Function.Bijective sbPc := by decide
def agPc (n : Fin 4) : Fin 2 × Fin 2 := (agH n, agB n)
theorem agPc_bij : Function.Bijective agPc := by decide
def oPc (n : Fin 16) : Fin 2 × Fin 8 := (oH n, oB c n)
theorem oPc_bij : Function.Bijective (oPc c) := by
  have h : ∀ c : Dev nD, ∀ x y : Fin 16, oPc c x = oPc c y → x = y := by decide +kernel
  exact (Fintype.bijective_iff_injective_and_card _).mpr ⟨fun x y => h c x y, by decide⟩

theorem sb_pieces : (bigSep Finset.univ (sbAt (F := F) c 0)) = bigSep Finset.univ fun p : Fin 2 × Fin 2 => ownX c (slotM (n := 2) sbM p.1 p.2) := by
  rw [bigSep_univ_equiv (Equiv.ofBijective _ sbPc_bij) (fun p : Fin 2 × Fin 2 => ownX (F := F) c (slotM (n := 2) sbM p.1 p.2))]
  refine bigSep_congr fun n _ => ?_
  unfold sbAt
  rw [if_neg (Nat.not_lt_zero _)]
  fin_cases n <;> rfl

theorem ag_pieces : (bigSep Finset.univ (agAt (F := F) c 0)) = bigSep Finset.univ fun p : Fin 2 × Fin 2 => ownX c (agtM p.1 p.2) := by
  rw [bigSep_univ_equiv (Equiv.ofBijective _ agPc_bij) (fun p : Fin 2 × Fin 2 => ownX (F := F) c (agtM p.1 p.2))]
  refine bigSep_congr fun n _ => ?_
  unfold agAt
  rw [if_neg (Nat.not_lt_zero _)]
  rfl

theorem o_pieces : (bigSep Finset.univ (oAt m c 0)) = bigSep Finset.univ fun p : Fin 2 × Fin 8 => ownX c (otM p.1 p.2) := by
  rw [bigSep_univ_equiv (Equiv.ofBijective _ (oPc_bij c)) (fun p : Fin 2 × Fin 8 => ownX (F := F) c (otM p.1 p.2))]
  refine bigSep_congr fun n _ => ?_
  unfold oAt
  rw [if_neg (Nat.not_lt_zero _)]
  rfl

theorem z_pieces : (bigSep Finset.univ (zAt m c 0)) = bigSep Finset.univ fun h : Fin 2 => ownX c (rowM h) := by
  refine bigSep_congr fun n _ => ?_
  unfold zAt
  rw [if_neg (Nat.not_lt_zero _)]

/-- The scratch buffers and the result's buffer are the pieces the steps start with. -/
theorem bufs_intro : iprop(work (F := F) c ∗ ownX c oM) ⊢ bufs m c := by
  unfold work bufs
  rw [sb_pieces, ag_pieces, o_pieces, z_pieces]
  iintro ⟨⟨Hz, Hbb, Hsb, H1, H2, Hag, Hal⟩, Ho⟩
  ihave Hz' := (ownX_rows c).1 $$ Hz
  ihave Hsb' := (ownX_slots (n := 2) c sbM).1 $$ Hsb
  ihave Hag' := (ownX_tiles (nb := 2) c agM).1 $$ Hag
  ihave Ho' := (ownX_tiles (nb := 8) c oM).1 $$ Ho
  ihave Hd := (slots_bufs c).2 $$ [H1 H2 Hal]
  · isplitl [H1]; · iexact H1
    isplitl [H2] <;> iassumption
  isplitl [Hd]; · iexact Hd
  isplitl [Hz']; · iexact Hz'
  isplitl [Hsb']; · iexact Hsb'
  isplitl [Hag']; · iexact Hag'
  isplitl [Ho'] <;> iassumption

/-! ## Every copy done -/

theorem sends_done : (bigSep Finset.univ (sAt m c 24 24 24))
    = iprop((bigSep Finset.univ fun j : Fin 24 => semVal (sendCell c j) 0) ∗ bigSep Finset.univ fun j : Fin 24 => sendPay m c j) := by
  rw [← bigSep_sep', bigSep_univ_equiv sPerm (fun j : Fin 24 => iprop(semVal (sendCell c j) 0 ∗ sendPay m c j))]
  refine bigSep_congr fun p _ => ?_
  unfold sAt
  rw [if_pos p.isLt]
  rfl

/-- What a landed copy has left. -/
abbrev landed (j : Fin 24) : sProp 𝕄 := own c (dstM j) (lndQ j) (lv' m c j)

theorem recvs_done : (bigSep Finset.univ (rAt m c 24))
    = iprop((bigSep Finset.univ fun j : Fin 24 => semVal (recvCell c j) 0) ∗ bigSep Finset.univ fun j : Fin 24 => landed m c j) := by
  rw [← bigSep_sep', bigSep_univ_equiv rPerm (fun j : Fin 24 => iprop(semVal (recvCell c j) 0 ∗ landed m c j))]
  refine bigSep_congr fun p _ => ?_
  unfold rAt
  rw [if_pos p.isLt]
  rfl

set_option backward.proofsInPublic true in
/-- Half `h` of edge `e`, as a copy. -/
def cp (e : Fin 12) (h : Fin 2) : Fin 24 := ⟨2 * e.val + h.val, by have := h.isLt; have := e.isLt; omega⟩

theorem by_half (Φ : Fin 24 → sProp 𝕄) :
    bigSep Finset.univ Φ = bigSep Finset.univ fun h : Fin 2 => bigSep Finset.univ fun e : Fin 12 => Φ (cp e h) := by
  refine copies_eq Φ (fun e h => Φ (cp e h)) fun j => congrArg Φ ?_
  have : ∀ j, j = cp (edg j) (hlf j) := by decide
  exact this j

theorem list12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_eq_bigSepL_of_eq [0, 1, 2, 3, 4, 5, 6, 7, 8, 9, 10, 11] (by decide) (by decide)]; rfl
theorem list4 (Φ : Fin 4 → sProp 𝕄) : bigSep Finset.univ Φ = iprop(Φ 0 ∗ Φ 1 ∗ Φ 2 ∗ Φ 3) := by
  rw [bigSep_eq_bigSepL_of_eq [0, 1, 2, 3] (by decide) (by decide)]; rfl
theorem list2 (Φ : Fin 2 → sProp 𝕄) : bigSep Finset.univ Φ = iprop(Φ 0 ∗ Φ 1) := by
  rw [bigSep_eq_bigSepL_of_eq [0, 1] (by decide) (by decide)]; rfl

/-- The two half shares of a piece are the piece. -/
theorem own_join {s : Shape} {e : EltTy} (M : Memref sig .tc .vmem s e) (v : s.Idx → Elt F e) :
    iprop(own c M fullShare.left v ∗ own c M fullShare.right v) ⊢ ownX c M :=
  (own_halves c M fullShare v).2.trans (own_ownX c M v)

/-- Once the copies over the edges of half `h` are done, every piece they read or wrote is whole again. -/
theorem half_back (h : Fin 2) :
    iprop((bigSep Finset.univ fun e : Fin 12 => sendPay m c (cp e h)) ∗ bigSep Finset.univ fun e : Fin 12 => landed m c (cp e h))
      ⊢ iprop((bigSep Finset.univ fun i : Fin 4 => ownX c (ztM h (zS c i))) ∗ (bigSep Finset.univ fun x : Fin 2 => ownX c (slotM (n := 2) sbM x h))
        ∗ (bigSep Finset.univ fun b : Fin 2 => ownX c (agtM h b)) ∗ bigSep Finset.univ fun e : Fin 12 => ownX c (dstM (cp e h))) := by
  rw [list12, list12, list12, list4, list2, list2]
  have s0 : sendPay m c (cp 0 h) ⊢ ownX c (ztM h (zS c 2)) := by fin_cases h <;> exact own_ownX c _ _
  have s1 : sendPay m c (cp 1 h) ⊢ ownX c (ztM h (zS c 0)) := by fin_cases h <;> exact own_ownX c _ _
  have s2 : sendPay m c (cp 2 h) ⊢ ownX c (ztM h (zS c 3)) := by fin_cases h <;> exact own_ownX c _ _
  have s3 : sendPay m c (cp 3 h) ⊢ ownX c (ztM h (zS c 1)) := by fin_cases h <;> exact own_ownX c _ _
  have s4 : sendPay m c (cp 4 h) ⊢ ownX c (slotM (n := 2) sbM 0 h) := by fin_cases h <;> exact own_ownX c _ _
  have s5 : sendPay m c (cp 5 h) ⊢ ownX c (slotM (n := 2) sbM 1 h) := by fin_cases h <;> exact own_ownX c _ _
  have s6 : iprop(sendPay m c (cp 6 h) ∗ sendPay m c (cp 8 h)) ⊢ ownX c (agtM h 0) := by fin_cases h <;> exact own_join c _ _
  have s7 : iprop(sendPay m c (cp 7 h) ∗ sendPay m c (cp 10 h)) ⊢ ownX c (agtM h 1) := by fin_cases h <;> exact own_join c _ _
  have d6 : iprop(landed m c (cp 6 h) ∗ sendPay m c (cp 9 h)) ⊢ ownX c (dstM (cp 6 h)) := by fin_cases h <;> exact own_join c _ _
  have d7 : iprop(landed m c (cp 7 h) ∗ sendPay m c (cp 11 h)) ⊢ ownX c (dstM (cp 7 h)) := by fin_cases h <;> exact own_join c _ _
  have d : ∀ e : Fin 12, e ≠ 6 → e ≠ 7 → (landed m c (cp e h) ⊢ ownX c (dstM (cp e h))) := fun e h6 h7 => by
    have hq : lndQ (cp e h) = fullShare := by
      have : ∀ (e : Fin 12) (h : Fin 2), e ≠ 6 → e ≠ 7 → edg (cp e h) ≠ 6 ∧ edg (cp e h) ≠ 7 := by decide
      obtain ⟨q6, q7⟩ := this e h h6 h7
      unfold lndQ; split
      · rename_i q; exact absurd q q6
      · rename_i q; exact absurd q q7
      · rfl
    unfold landed
    rw [hq]; exact own_ownX c _ _
  iintro ⟨⟨S0, S1, S2, S3, S4, S5, S6, S7, S8, S9, S10, S11⟩, D0, D1, D2, D3, D4, D5, D6, D7, D8, D9, D10, D11⟩
  isplitl [S0 S1 S2 S3]
  · isplitl [S1]; · iapply s1; iexact S1
    isplitl [S3]; · iapply s3; iexact S3
    isplitl [S0]; · iapply s0; iexact S0
    iapply s2; iexact S2
  isplitl [S4 S5]
  · isplitl [S4]; · iapply s4; iexact S4
    iapply s5; iexact S5
  isplitl [S6 S7 S8 S10]
  · isplitl [S6 S8]
    · iapply s6; isplitl [S6] <;> iassumption
    iapply s7; isplitl [S7] <;> iassumption
  isplitl [D0]; · iapply (d 0 (by decide) (by decide)); iexact D0
  isplitl [D1]; · iapply (d 1 (by decide) (by decide)); iexact D1
  isplitl [D2]; · iapply (d 2 (by decide) (by decide)); iexact D2
  isplitl [D3]; · iapply (d 3 (by decide) (by decide)); iexact D3
  isplitl [D4]; · iapply (d 4 (by decide) (by decide)); iexact D4
  isplitl [D5]; · iapply (d 5 (by decide) (by decide)); iexact D5
  isplitl [D6 S9]; · iapply d6; isplitl [D6] <;> iassumption
  isplitl [D7 S11]; · iapply d7; isplitl [D7] <;> iassumption
  isplitl [D8]; · iapply (d 8 (by decide) (by decide)); iexact D8
  isplitl [D9]; · iapply (d 9 (by decide) (by decide)); iexact D9
  isplitl [D10]; · iapply (d 10 (by decide) (by decide)); iexact D10
  iapply (d 11 (by decide) (by decide)); iexact D11

/-- A family over pairs, by the second member. -/
theorem by_snd {A B : Type} [Fintype A] [Fintype B] [DecidableEq A] [DecidableEq B] (Φ : A → B → sProp 𝕄) :
    (bigSep Finset.univ fun p : A × B => Φ p.1 p.2) = bigSep Finset.univ fun b : B => bigSep Finset.univ fun a : A => Φ a b := by
  rw [bigSep_univ_equiv (Equiv.prodComm B A), ← bigSep_univ_prod (fun p : B × A => Φ p.2 p.1)]
  rfl

/-- The tiles of the product: those read and those sent. -/
theorem z_back (h : Fin 2) : iprop(zTiles m c h ∗ bigSep Finset.univ fun i : Fin 4 => ownX c (ztM h (zS c i)))
    ⊢ bigSep Finset.univ fun b : Fin 8 => ownX c (ztM h b) := by
  rw [bigSep_univ_equiv (Equiv.ofBijective _ (zAll_bij c)) (fun b : Fin 8 => ownX (F := F) c (ztM h b)), bigSep_univ_sum]
  exact BIClass.sep_mono (bigSep_mono fun i _ => own_ownX c _ _) (Entails.of_eq rfl)

theorem work_back : iprop((bigSep Finset.univ fun j : Fin 24 => sendPay m c j) ∗ (bigSep Finset.univ fun j : Fin 24 => landed m c j)
      ∗ bigSep Finset.univ (zAt m c 2) ∗ own c bbM fullShare (bbv m c)) ⊢ work (F := F) c := by
  have hz : bigSep Finset.univ (zAt m c 2) = bigSep Finset.univ fun h : Fin 2 => zTiles m c h :=
    bigSep_congr fun h _ => by unfold zAt; rw [if_pos h.isLt]
  rw [by_half (fun j => sendPay m c j), by_half (fun j => landed m c j), hz]
  have hh := bigSep_mono (M := 𝕄) (s := Finset.univ) fun (h : Fin 2) _ => half_back m c h
  rw [bigSep_sep', bigSep_sep', bigSep_sep', bigSep_sep', ← by_half (fun j => ownX (F := F) c (dstM j)), ← by_snd (fun x h => ownX (F := F) c (slotM (n := 2) sbM x h))] at hh
  rw [← bigSep_univ_prod (fun p : Fin 2 × Fin 2 => ownX (F := F) c (agtM p.1 p.2))] at hh
  have hzb := bigSep_mono (M := 𝕄) (s := Finset.univ) fun (h : Fin 2) _ => z_back m c h
  rw [bigSep_sep', ← bigSep_univ_prod (fun p : Fin 2 × Fin 8 => ownX (F := F) c (ztM p.1 p.2))] at hzb
  have hh' : iprop((bigSep Finset.univ fun h : Fin 2 => bigSep Finset.univ fun e : Fin 12 => sendPay m c (cp e h))
        ∗ bigSep Finset.univ fun h : Fin 2 => bigSep Finset.univ fun e : Fin 12 => landed m c (cp e h))
      ⊢ iprop((bigSep Finset.univ fun h : Fin 2 => bigSep Finset.univ fun i : Fin 4 => ownX c (ztM h (zS c i)))
        ∗ (bigSep Finset.univ fun p : Fin 2 × Fin 2 => ownX c (slotM (n := 2) sbM p.1 p.2))
        ∗ (bigSep Finset.univ fun p : Fin 2 × Fin 2 => ownX c (agtM p.1 p.2)) ∗ bigSep Finset.univ fun j : Fin 24 => ownX c (dstM j)) := hh
  have hzb' : iprop((bigSep Finset.univ fun h : Fin 2 => zTiles m c h) ∗ bigSep Finset.univ fun h : Fin 2 => bigSep Finset.univ fun i : Fin 4 => ownX c (ztM h (zS c i)))
      ⊢ bigSep Finset.univ fun p : Fin 2 × Fin 8 => ownX (F := F) c (ztM p.1 p.2) := hzb
  unfold work
  iintro ⟨Hs, Hd, Hz, Hb⟩
  ihave H := hh' $$ [Hs Hd]
  · isplitl [Hs] <;> iassumption
  icases H with ⟨Hzs, Hsb, Hag, Hds⟩
  ihave Hz' := hzb' $$ [Hz Hzs]
  · isplitl [Hz] <;> iassumption
  ihave Hl := (slots_bufs c).1 $$ Hds
  icases Hl with ⟨H1, H2, H3⟩
  isplitl [Hz']; · iapply (ownX_tiles (nb := 8) c zM).2; iexact Hz'
  isplitl [Hb]; · iapply (own_ownX c bbM (bbv m c)); iexact Hb
  isplitl [Hsb]; · iapply (ownX_slots (n := 2) c sbM).2; iexact Hsb
  isplitl [H1]; · iexact H1
  isplitl [H2]; · iexact H2
  isplitl [Hag]; · iapply (ownX_tiles (nb := 2) c agM).2; iexact Hag
  iexact H3

/-! ## The result -/

set_option backward.proofsInPublic true in
/-- The index of an entry within its tile. -/
def inTile (i : S1024x1024.Idx) : S512x128.Idx :=
  Fin.cons (⟨(i 0).val % 512, Nat.mod_lt _ (by decide)⟩ : Fin 512) (Fin.cons (⟨(i 1).val % 128, Nat.mod_lt _ (by decide)⟩ : Fin 128) fun a => a.elim0)
set_option backward.proofsInPublic true in
/-- The half of the rows and the column block of an entry. -/
def half (i : S1024x1024.Idx) : Fin 2 := ⟨(i 0).val / 512, by have h : (i 0).val < 1024 := (i 0).isLt; omega⟩
set_option backward.proofsInPublic true in
def col (i : S1024x1024.Idx) : Fin 8 := ⟨(i 1).val / 128, by have h : (i 1).val < 1024 := (i 1).isLt; omega⟩

/-- The result on device `c`. -/
def outAt : Vec F S1024x1024 .f32 := fun i => ov m c (half i) (col i) (inTile i)

theorem out_tile (h : Fin 2) (b : Fin 8) (y : S512x128.Idx) :
    half ((tileR (nb := 8) h b).emb y) = h ∧ col ((tileR (nb := 8) h b).emb y) = b ∧ inTile ((tileR (nb := 8) h b).emb y) = y := by
  have h0 : ((tileR (nb := 8) h b).emb y 0).val = 512 * h.val + 1 * (y 0).val := Rect.emb_apply _ _ _
  have h1 : ((tileR (nb := 8) h b).emb y 1).val = 128 * b.val + 1 * (y 1).val := Rect.emb_apply _ _ _
  have l0 : (y 0).val < 512 := (y 0).isLt
  have l1 : (y 1).val < 128 := (y 1).isLt
  refine ⟨Fin.ext ?_, Fin.ext ?_, funext fun a => ?_⟩
  · show ((tileR (nb := 8) h b).emb y 0).val / 512 = h.val
    rw [h0]; omega
  · show ((tileR (nb := 8) h b).emb y 1).val / 128 = b.val
    rw [h1]; omega
  · fin_cases a
    · refine Fin.ext ?_
      show ((tileR (nb := 8) h b).emb y 0).val % 512 = (y 0).val
      rw [h0]; omega
    · refine Fin.ext ?_
      show ((tileR (nb := 8) h b).emb y 1).val % 128 = (y 1).val
      rw [h1]; omega

/-- The tiles of the result are the result. -/
theorem out_back : bigSep Finset.univ (oAt m c 16) = ((c : Thread nD τ).loc cc0_stg2_0 ↦{fullShare} outAt m c : sProp 𝕄) := by
  have e1 : bigSep Finset.univ (oAt m c 16) = bigSep Finset.univ fun p : Fin 2 × Fin 8 => own c (otM p.1 p.2) fullShare (ov m c p.1 p.2) := by
    rw [bigSep_univ_equiv (Equiv.ofBijective _ (oPc_bij c)) (fun p : Fin 2 × Fin 8 => own c (otM p.1 p.2) fullShare (ov m c p.1 p.2))]
    refine bigSep_congr fun n _ => ?_
    unfold oAt
    rw [if_pos n.isLt]
    rfl
  have e2 : ∀ p : Fin 2 × Fin 8, own c (otM p.1 p.2) fullShare (ov m c p.1 p.2)
      = ((c : Thread nD τ).loc cc0_stg2_0 ↦[(tileR (nb := 8) p.1 p.2).set]{fullShare} outAt m c : sProp 𝕄) := fun p => by
    have hset : (otM p.1 p.2).view.set = (tileR (nb := 8) p.1 p.2).set := View.set_slice_whole cc0_stg2_0 _
    have hr : (otM p.1 p.2).view.read (Elt F) (outAt m c) = ov m c p.1 p.2 := funext fun y => by
      show ov m c (half ((tileR (nb := 8) p.1 p.2).emb y)) (col ((tileR (nb := 8) p.1 p.2).emb y)) (inTile ((tileR (nb := 8) p.1 p.2).emb y)) = _
      obtain ⟨q1, q2, q3⟩ := out_tile p.1 p.2 y
      rw [q1, q2, q3]
    rw [← own_of_read c (otM p.1 p.2) fullShare _ (outAt m c) hr, hset]
  rw [e1, bigSep_congr fun p _ => e2 p]
  let I : Fin 2 × Fin 8 → Finset (Idx ((c : Thread nD τ).loc cc0_stg2_0)) := fun p => (tileR (nb := 8) p.1 p.2).set
  exact (Ring.pointsTo_sub_blocks (Ix := Unit) (Name := ℕ) (U := UU) (Lvl := ℕ) I (fun p p' h => tile_disjoint h) Finset.univ (tile_cover 8) (q := fullShare) (outAt m c)).symm

/-- What the body leaves. -/
def Post : sProp 𝕄 :=
  iprop(work (F := F) c ∗ (bigSep Finset.univ fun j : Fin 24 => semVal (sendCell c j) 0) ∗ (bigSep Finset.univ fun j : Fin 24 => semVal (recvCell c j) 0)
    ∗ (∃ W, owes (c : Thread nD τ) 0 W) ∗ ((c : Thread nD τ).loc cc0_stg0_0 ↦{fullShare} aStg m c) ∗ ((c : Thread nD τ).loc cc0_stg1_0 ↦{fullShare} bStg m c)
    ∗ ((c : Thread nD τ).loc cc0_stg2_0 ↦{fullShare} outAt m c))

theorem st_end : St m K c 2 4 4 16 24 24 24 24 ⊢ Post m c := by
  unfold St Post args owesK
  rw [sends_done, recvs_done, out_back, owe_end]
  iintro ⟨-, -, HO, ⟨Hs, Hsp⟩, ⟨Hr, Hrp⟩, Hz, -, -, Ho, Ha, Hb, Hbb⟩
  isplitl [Hsp Hrp Hz Hbb]
  · iapply (work_back m c)
    isplitl [Hsp]; · iexact Hsp
    isplitl [Hrp]; · iexact Hrp
    isplitl [Hz] <;> iassumption
  isplitl [Hs]; · iexact Hs
  isplitl [Hr]; · iexact Hr
  isplitl [HO]; · iexact HO
  isplitl [Ha]; · iexact Ha
  isplitl [Hb] <;> iassumption

end Cert.Ring

end

end
-- ==== Proof.Deal.lean ====
/-
# What the devices are dealt

At the launch every cell's schedule is opened and its record shared. The duties' tokens go to the devices that pay them:
a barrier's two tokens and a landing's token to the neighbours, the token of a copy's source to the device itself. Each
device gets the credit of its barrier and of its landings, which the others owe.
-/
module

public import proofs.«01_k».proof.Proof.Start
public import Idealize.ShloMosaic.Lib.Pipeline.Launch
public import Idealize.ShloMosaic.Lib.Pipeline.Kit

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 48) → ℕ) (c : Dev nD)

/-! ## Cells -/

theorem csem_inj {k k' : Option (Fin 48)} (h : csem k = csem k') : k = k' := by
  cases k with
  | none => cases k' with
    | none => rfl
    | some i => exact absurd h (by intro h; cases h)
  | some i => cases k' with
    | none => exact absurd h (by intro h; cases h)
    | some i' => exact congrArg some (dsem_inj (SemLoc.dma.inj h))

theorem dev_of_cell {a b : Dev nD} {s s' : SemLoc sig} (h : (((a : Thread nD τ), s) : GSem nD τ sig) = ((b : Thread nD τ), s')) : a = b :=
  congrArg (fun g : GSem nD τ sig => g.1.1) h

theorem kcell_injective : Function.Injective (kcell : Dev nD × Option (Fin 48) → GSem nD τ sig) := by
  rintro ⟨c, k⟩ ⟨c', k'⟩ h
  have h1 : c = c' := dev_of_cell h
  have h2 : k = k' := csem_inj (congrArg Prod.snd h)
  rw [h1, h2]

/-- The cells of the schedule. -/
def ringCells : Finset (GSem nD τ sig) := Finset.univ.map ⟨kcell, kcell_injective⟩

/-- The copies' cells by source and destination. -/
def cellIx : Fin 24 ⊕ Fin 24 → Fin 48 := Sum.elim sIx rIx
theorem cellIx_bij : Function.Bijective cellIx := by
  have h : ∀ x y, cellIx x = cellIx y → x = y := by decide +kernel
  exact (Fintype.bijective_iff_injective_and_card _).mpr ⟨fun x y => h x y, by decide⟩

/-- A family over the copies' cells. -/
theorem by_cell (Φ : Fin 48 → sProp 𝕄) :
    bigSep Finset.univ Φ = iprop((bigSep Finset.univ fun j : Fin 24 => Φ (sIx j)) ∗ bigSep Finset.univ fun j : Fin 24 => Φ (rIx j)) := by
  rw [bigSep_univ_equiv (Equiv.ofBijective _ cellIx_bij), bigSep_univ_sum]
  rfl

/-- A family over a device's cells: the barrier's, then the copies'. -/
theorem by_csem (Φ : Option (Fin 48) → sProp 𝕄) :
    bigSep Finset.univ Φ = iprop(Φ none ∗ bigSep Finset.univ fun i : Fin 48 => Φ (some i)) := by
  rw [bigSep_univ_equiv (Equiv.optionEquivSumPUnit.{0} (Fin 48)).symm, bigSep_univ_sum,
    bigSep_univ_eq_bigSepL [PUnit.unit] (by decide) (by decide)]
  exact equiv_iff.mp ⟨Idealize.SL.BI.sep_comm, Idealize.SL.BI.sep_comm⟩

/-! ## Tokens -/

/-- A device's duties: the two of its barrier, and one for each copy's source and destination. -/
abbrev tokOf (p : Dev nD × (Bool ⊕ (Fin 24 ⊕ Fin 24))) : GSem nD τ sig × ℕ × Bool := match p.2 with
  | .inl b => (barCell p.1, 0, b)
  | .inr (.inl j) => (sendCell p.1 j, 0, false)
  | .inr (.inr j) => (recvCell p.1 j, 0, false)

theorem tokOf_injective : Function.Injective (tokOf : Dev nD × (Bool ⊕ (Fin 24 ⊕ Fin 24)) → GSem nD τ sig × ℕ × Bool) := by
  rintro ⟨c, x⟩ ⟨c', x'⟩ h
  have h1 : c = c' := by
    have h0 : (tokOf (c, x)).1.1.1 = (tokOf (c', x')).1.1.1 := by rw [h]
    rcases x with b | j | j <;> rcases x' with b' | j' | j' <;> exact h0
  subst h1
  have h2 : (tokOf (c, x)).1.2 = (tokOf (c, x')).1.2 := by rw [h]
  have h3 : (tokOf (c, x)).2.2 = (tokOf (c, x')).2.2 := by rw [h]
  have key : x = x' := by
    rcases x with b | j | j <;> rcases x' with b' | j' | j'
    · exact congrArg Sum.inl h3
    · exact absurd h2 (by intro h; cases h)
    · exact absurd h2 (by intro h; cases h)
    · exact absurd h2 (by intro h; cases h)
    · exact congrArg (fun j => Sum.inr (Sum.inl j)) (sIx_inj (dsem_inj (SemLoc.dma.inj h2)))
    · exact absurd (dsem_inj (SemLoc.dma.inj h2)) (sIx_ne_rIx j j')
    · exact absurd h2 (by intro h; cases h)
    · exact absurd (dsem_inj (SemLoc.dma.inj h2)).symm (sIx_ne_rIx j' j)
    · exact congrArg (fun j => Sum.inr (Sum.inr j)) (rIx_inj (dsem_inj (SemLoc.dma.inj h2)))
  rw [key]

def ringToks : Finset (GSem nD τ sig × ℕ × Bool) := Finset.univ.map ⟨tokOf, tokOf_injective⟩

/-- The state the launch begins with: the staging's part and the schedule's. -/
def u₀ : UU :=
  (initOf (Pipeline.cells cfgs cellOf_inj) (Pipeline.launchToks cfgs cellOf_inj), initOf ringCells ringToks)

/-- The tokens of a device's own cells. -/
def toks : sProp 𝕄 :=
  iprop((dutyTok ER (barCell c) 0 false ∗ dutyTok ER (barCell c) 0 true) ∗ (bigSep Finset.univ fun j : Fin 24 => dutyTok ER (sendCell c j) 0 false)
    ∗ bigSep Finset.univ fun j : Fin 24 => dutyTok ER (recvCell c j) 0 false)
/-- The tokens a device pays with. -/
def payToks : sProp 𝕄 :=
  iprop((dutyTok ER (barCell (p2 c)) 0 false ∗ dutyTok ER (barCell (p1 c)) 0 true) ∗ (bigSep Finset.univ fun j : Fin 24 => dutyTok ER (sendCell c j) 0 false)
    ∗ bigSep Finset.univ fun j : Fin 24 => dutyTok ER (recvCell (peer j c) j) 0 false)

/-- Where a cell stands at the launch. -/
abbrev atZero (g : GSem nD τ sig) : sProp 𝕄 := atPos ER g 0 ∅ 0

/-- A device's part of the schedule at the launch. -/
def G : sProp 𝕄 :=
  iprop((bigSep Finset.univ fun k : Option (Fin 48) => roundState ER (Rd m) (kcell (c, k)) 0)
    ∗ (bigSep Finset.univ fun k : Option (Fin 48) => iprop(atZero (kcell (c, k)) ∗ reached ER (kcell (c, k)) 0)) ∗ toks c)

/-- What the deal makes of it: the records, the positions and the tokens to pay with. -/
def G' : sProp 𝕄 :=
  iprop(∃ K, Recs m K ∗ (bigSep Finset.univ fun k : Option (Fin 48) => atZero (kcell (c, k))) ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 48) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_eq_bigSepL [false, true] (by decide) (by decide)]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atZero g)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the cells -/

theorem ownSems0_eq : (Pipeline.ownSems0 (Ix := Unit) (Name := ℕ) (U := UU) (Lvl := ℕ) (Val := Elt F) (τ := τ) osem c : sProp 𝕄)
    = bigSep Finset.univ fun i : Fin 48 => semVal (kcell (c, some i)) 0 := by
  unfold Pipeline.ownSems0; rfl
theorem unscopedSems0_eq : (unscopedSems0 c : sProp 𝕄) = semVal (barCell c) 0 := by
  unfold unscopedSems0; rw [bigSep_eq_bigSepL_of_eq [SemLoc.reg barS] (by decide) (by decide)]; rfl

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atZero (kcell (c, k)) ∗ reached ER (kcell (c, k)) 0)) ∗ toks c) := by
  have hopen : iprop((bigSep Finset.univ fun k : Option (Fin 48) => semVal (kcell (c, k)) 0) ∗ bigSep Finset.univ fun k : Option (Fin 48) => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems0_eq, unscopedSems0_eq]
  rw [by_csem fun k => semVal (kcell (c, k)) 0] at hopen
  unfold G
  iintro ⟨Hos, Hus, Hst, Hat, Htok⟩
  imod hopen $$ [Hos Hus Hst] with Hinv
  · isplitl [Hos Hus]
    · isplitl [Hus] <;> iassumption
    iexact Hst
  imodintro
  isplitl [Hinv]; · iexact Hinv
  isplitl [Hat]; · iexact Hat
  iexact Htok

/-! ## Dealing the tokens -/

/-- Copies and devices, turned round: the copy at its sender for the copy at its receiver. -/
def turn : Dev nD × Fin 24 ≃ Dev nD × Fin 24 :=
  ⟨fun p => (peer p.2 p.1, p.2), fun p => (peer p.2 p.1, p.2), fun p => by simp only [peer_peer], fun p => by simp only [peer_peer]⟩

theorem recv_around : (bigSep Finset.univ fun c : Dev nD => bigSep Finset.univ fun j : Fin 24 => (dutyTok ER (recvCell c j) 0 false : sProp 𝕄))
    = bigSep Finset.univ fun c : Dev nD => bigSep Finset.univ fun j : Fin 24 => (dutyTok ER (recvCell (peer j c) j) 0 false : sProp 𝕄) := by
  rw [← bigSep_univ_prod (fun p : Dev nD × Fin 24 => (dutyTok ER (recvCell p.1 p.2) 0 false : sProp 𝕄)), bigSep_univ_equiv turn,
    ← bigSep_univ_prod (fun p : Dev nD × Fin 24 => (dutyTok ER (recvCell (peer p.2 p.1) p.2) 0 false : sProp 𝕄))]
  rfl

theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', recv_around,
    bigSep_univ_equiv flip2 (fun c : Dev nD => (dutyTok ER (barCell c) 0 false : sProp 𝕄)),
    bigSep_univ_equiv flip1 (fun c : Dev nD => (dutyTok ER (barCell c) 0 true : sProp 𝕄))]
  rfl

/-- A shared fact goes to every member. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atZero (kcell (c, k)) ∗ reached ER (kcell (c, k)) 0)) ∗ toks c) : sProp 𝕄)
      ⊢ bigSep Finset.univ (G' m) := by
  have hg : ∀ (K : Dev nD × Option (Fin 48) → ℕ) (c : Dev nD),
      iprop(Recs m K ∗ (bigSep Finset.univ fun k : Option (Fin 48) => atZero (F := F) (kcell (c, k))) ∗ payToks c) ⊢ G' m c := fun K c => by
    unfold G'; iintro H; iexists K; iexact H
  rw [bigSep_sep', bigSep_sep', ← bigSep_univ_prod (fun ck : Dev nD × Option (Fin 48) => iprop(∃ κ : ℕ, cellInv ER (Rd m) κ (kcell ck))),
    bigSep_congr (s := Finset.univ) (fun (c : Dev nD) _ => bigSep_sep' Finset.univ (fun k : Option (Fin 48) => (atZero (kcell (c, k)) : sProp 𝕄)) (fun k => reached ER (kcell (c, k)) 0)),
    bigSep_sep', ← bigSep_univ_prod (fun ck : Dev nD × Option (Fin 48) => (reached ER (kcell ck) 0 : sProp 𝕄)), toks_around]
  iintro ⟨HI, ⟨Hat, #HR⟩, Htk⟩
  ihave HK := (BI.bigSep_exists_pi Finset.univ (fun (ck : Dev nD × Option (Fin 48)) (κ : ℕ) => (cellInv ER (Rd m) κ (kcell ck) : sProp 𝕄))) $$ HI
  icases HK with ⟨%K, #HI⟩
  iapply (share_out (R := Recs m K) fun c _ => hg K c)
  isplitr
  · unfold Recs
    rw [bigSep_sep']
    isplitl; · iexact HI
    iexact HR
  · rw [bigSep_sep']
    isplitl [Hat]; · iexact Hat
    iexact Htk

/-- All cells opened and everything dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem owed_recv (d c : Dev nD) (j : Fin 24) : owe₀ d (recvCell c j) () = if d = peer j c then N else 0 := by
  have e : ∀ p : Fin 24, oweOf d p (recvCell c j) () = if p = sPos j ∧ d = peer j c then N else 0 := fun p => by
    unfold oweOf
    rw [tallyAt_apply]
    refine if_congr ⟨fun h => ?_, fun h => ?_⟩ rfl rfl
    · have hj : j = sOrd p := rIx_inj (dsem_inj (SemLoc.dma.inj (congrArg Prod.snd h.1)))
      have hd : c = peer (sOrd p) d := dev_of_cell h.1
      exact ⟨by rw [hj, sPos_sOrd], by rw [hd, hj, peer_peer]⟩
    · obtain ⟨rfl, rfl⟩ := h
      rw [sOrd_sPos, peer_peer]; exact ⟨rfl, rfl⟩
  have e0 : owe d 0 (recvCell c j) () = if d = peer j c then N else 0 := by
    unfold owe
    rw [Finset.sum_apply, Finsupp.finset_sum_apply, Finset.sum_congr rfl fun p _ => e p, Finset.filter_true_of_mem fun p _ => Nat.zero_le _,
      Finset.sum_eq_single (sPos j) (fun p _ h => if_neg fun h' => h h'.1) (fun h => absurd (Finset.mem_univ _) h)]
    exact if_congr ⟨fun h => h.2, fun h => ⟨rfl, h⟩⟩ rfl rfl
  have hb : ∀ b : Dev nD, recvCell c j ≠ barCell b := fun b h => by have := congrArg Prod.snd h; cases this
  unfold owe₀ owe₁
  rw [Pi.add_apply, Finsupp.add_apply, Pi.add_apply, Finsupp.add_apply, e0, tallyAt_ne_cell (hb _), tallyAt_ne_cell (hb _)]
  rfl

theorem owed_bar (d c : Dev nD) : owe₀ d (barCell c) () = (if d = p2 c then 1 else 0) + (if d = p1 c then 1 else 0) := by
  have e0 : owe d 0 (barCell c) () = 0 := by
    by_contra h
    obtain ⟨p, -, hp⟩ := owe_pos (Nat.pos_of_ne_zero h)
    have := congrArg Prod.snd hp; cases this
  unfold owe₀ owe₁
  rw [Pi.add_apply, Finsupp.add_apply, Pi.add_apply, Finsupp.add_apply, e0, Nat.zero_add, tallyAt_apply, tallyAt_apply]
  refine congrArg₂ _ (if_congr ⟨fun h => ?_, fun h => ?_⟩ rfl rfl) (if_congr ⟨fun h => ?_, fun h => ?_⟩ rfl rfl)
  · have := dev_of_cell h.1; rw [this, p2_p2]
  · rw [h, p2_p2]; exact ⟨rfl, rfl⟩
  · have := dev_of_cell h.1; rw [this, p1_p1]
  · rw [h, p1_p1]; exact ⟨rfl, rfl⟩

theorem launch_bar : tallyOn (barCell c) (launchCredit (Pipeline.owing owe₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (j : Fin 24) :
    tallyOn (recvCell c j) (launchCredit (Pipeline.owing owe₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer j c) fun _ => N,
    if_pos (Finset.mem_univ _)]

theorem recvSem_injective : Function.Injective fun j : Fin 24 => (SemLoc.dma (recvS j) : SemLoc sig) :=
  fun j j' h => rIx_inj (dsem_inj (SemLoc.dma.inj h))

theorem creds : (Pipeline.launchCred owe₀ c : sProp 𝕄)
    ⊢ iprop(cred (tallyAt (barCell c) () 2) ∗ bigSep Finset.univ fun j : Fin 24 => cred (tallyAt (recvCell c j) () N)) := by
  unfold Pipeline.launchCred
  rw [bigSep_univ_at _ (SemLoc.reg barS), launch_bar]
  refine sep_mono_right ?_
  have hsub : Finset.univ.map ⟨fun j : Fin 24 => (SemLoc.dma (recvS j) : SemLoc sig), recvSem_injective⟩ ⊆ Finset.univ.erase (SemLoc.reg barS) := fun x hx => by
    obtain ⟨j, -, rfl⟩ := Finset.mem_map.mp hx
    exact Finset.mem_erase.mpr ⟨(fun h => by cases h), Finset.mem_univ _⟩
  refine (bigSep_subset hsub).trans ?_
  rw [bigSep_map]
  exact Entails.of_eq (bigSep_congr fun j _ => congrArg cred (launch_recv c j))

/-- What a device starts from. -/
def start : sProp 𝕄 :=
  iprop(G' m c ∗ (cred (tallyAt (barCell c) () 2) ∗ bigSep Finset.univ fun j : Fin 24 => cred (tallyAt (recvCell c j) () N)) ∗ levAts L lv)

theorem r_start : iprop((bigSep Finset.univ fun j : Fin 24 => atZero (F := F) (recvCell c j)) ∗ bigSep Finset.univ fun j : Fin 24 => cred (tallyAt (recvCell c j) () N))
    ⊢ bigSep Finset.univ (rAt m c 0) := by
  rw [← bigSep_sep']
  have e : bigSep Finset.univ (rAt m c 0) = bigSep Finset.univ (rWait (F := F) c) := by
    rw [bigSep_univ_equiv rPerm (rWait (F := F) c)]
    refine bigSep_congr fun p _ => ?_
    unfold rAt
    rw [if_neg (Nat.not_lt_zero _)]
    rfl
  rw [e]
  exact Entails.of_eq rfl

/-- That is what the body's first part wants, next to its buffers. -/
theorem pre_intro : iprop(start m c ∗ (∃ W, owes (c : Thread nD τ) (owe₀ c) W) ∗ bufs m c
      ∗ (((c : Thread nD τ).loc cc0_stg0_0) ↦{fullShare} aStg m c) ∗ (((c : Thread nD τ).loc cc0_stg1_0) ↦{fullShare} bStg m c))
    ⊢ iprop(∃ K, Pre m K c) := by
  unfold start G' Pre barTok payToks
  have hs : (bigSep Finset.univ (sTok (F := F) c)) = iprop((bigSep Finset.univ fun j : Fin 24 => atZero (F := F) (sendCell c j))
      ∗ (bigSep Finset.univ fun j : Fin 24 => dutyTok ER (sendCell c j) 0 false) ∗ bigSep Finset.univ fun j : Fin 24 => dutyTok ER (recvCell (peer j c) j) 0 false) := by
    rw [← bigSep_sep', ← bigSep_sep']; rfl
  rw [hs, by_csem fun k : Option (Fin 48) => atZero (F := F) (kcell (c, k)), by_cell]
  iintro ⟨⟨⟨%K, HR, ⟨HaB, HaS, HaV⟩, ⟨HtB2, HtB1⟩, HtS, HtV⟩, ⟨HcB, HcV⟩, Hlev⟩, HO, Hbufs, Ha, Hb⟩
  iexists K
  isplitl [HR]; · iexact HR
  isplitl [Hlev]; · iexact Hlev
  isplitl [HO]; · iexact HO
  isplitl [HtB1 HtB2 HaB HcB]
  · isplitl [HtB1]; · iexact HtB1
    isplitl [HtB2]; · iexact HtB2
    isplitl [HaB] <;> iassumption
  isplitl [HaS HtS HtV]
  · isplitl [HaS]; · iexact HaS
    isplitl [HtS] <;> iassumption
  isplitl [HaV HcV]
  · iapply (r_start m c)
    isplitl [HaV] <;> iassumption
  isplitl [Hbufs]; · iexact Hbufs
  isplitl [Ha] <;> iassumption

end Cert.Ring

end

end
-- ==== Proof.Launch.lean ====
/-
# The run

The body's obligation and the launch: from any memory with zero counters every execution ends, each device's result is
`outAt`, the arguments are unchanged and every counter is zero.
-/
module

public import proofs.«01_k».proof.Proof.Ends
public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

set_option maxRecDepth 65536

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the staging is told -/

/-- Before the body: what the device was dealt, and its scratch buffers. -/
def Φ₀ : sProp 𝕄 := iprop(start m c ∗ work c)
/-- After it: the scratch buffers, and every cell closed at zero. -/
def Φ₁ : sProp 𝕄 :=
  iprop(work (F := F) c ∗ ((bigSep Finset.univ fun j : Fin 24 => semVal (sendCell c j) 0) ∗ bigSep Finset.univ fun j : Fin 24 => semVal (recvCell c j) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m c
    | ⟨1, _⟩ => bStg m c
    | ⟨2, _⟩ => outAt m c
  Φ t := match t with
    | ⟨0, _⟩ => Φ₀ m c
    | ⟨_ + 1, _⟩ => Φ₁ c
  q _ := fullShare
  owed t := match t with
    | ⟨0, _⟩ => owe₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The scratch buffers as the launch lists them. -/
theorem work_eq : work (F := F) c = Pipeline.scopedRest (Ix := Unit) (Name := ℕ) (U := UU) (Lvl := ℕ) (Val := Elt F) spec0 c := by
  rw [scopedRest0_eq]
  unfold work
  rw [ownX_whole c zM (View.set_whole _), ownX_whole c bbM (View.set_whole _), ownX_whole c sbM (View.set_whole _), ownX_whole c r1M (View.set_whole _),
    ownX_whole c r2M (View.set_whole _), ownX_whole c agM (View.set_whole _), ownX_whole c alM (View.set_whole _)]

/-! ## The body -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ c ∗ (dats m ρ 0 c).owesAt () t0_0.succ ∗ stg c cc0_stg0_0 (aStg m c) ∗ stg c cc0_stg1_0 (bStg m c) ∗ stg c cc0_stg2_0 (outAt m c))

theorem sound_body : bodyPre m ρ c ⊢ WP c (onBufs (cc0_body (F := F))) (fun _ => bodyPost m ρ c) := by
  unfold bodyPre Φ₀
  iintro ⟨⟨Hstart, Hwork⟩, Ho, ⟨%d0, %g0, %hg0, Ha⟩, ⟨%d1, %g1, %hg1, Hb⟩, ⟨%d2, %g2, %hg2, Hout⟩⟩
  have ha : g0 = aStg m c := by rw [hg0]; unfold Dat.before; rw [if_pos (fetch0_0 t0_0)]; rfl
  have hb : g1 = bStg m c := by rw [hg1]; unfold Dat.before; rw [if_pos (fetch0_1 t0_0)]; rfl
  subst ha
  subst hb
  unfold Dat.owesAt Pipeline.owesWithin
  icases Ho with ⟨%W, %hW, HO⟩
  rw [show (dats m ρ 0 c).owed t0_0.castSucc = owe₀ c from rfl]
  ihave Hbufs := (bufs_intro m c) $$ [Hwork Hout]
  · isplitl [Hwork]; · iexact Hwork
    rw [ownX_whole c oM (View.set_whole _)]
    iexists g2; iexact Hout
  ihave Hpre := (pre_intro m c) $$ [Hstart HO Hbufs Ha Hb]
  · isplitl [Hstart]; · iexact Hstart
    isplitl [HO]; · iexists W; iexact HO
    isplitl [Hbufs]; · iexact Hbufs
    isplitl [Ha] <;> iassumption
  icases Hpre with ⟨%K, Hpre⟩
  iapply (whole_body m K c) $$ Hpre
  iintro ⟨HzB, HSt⟩
  ihave HP := (st_end m K c) $$ HSt
  unfold Post bodyPost Φ₁ Dat.owesAt Pipeline.owesWithin
  rw [show (dats m ρ 0 c).owed t0_0.succ = 0 from rfl]
  icases HP with ⟨Hwork, Hs, Hr, ⟨%W', HO⟩, Ha, Hb, Hout⟩
  isplitl [Hwork Hs Hr HzB]
  · isplitl [Hwork]; · iexact Hwork
    isplitl [Hs Hr]
    · isplitl [Hs] <;> iassumption
    iexact HzB
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

/-- The obligation of the one grid point. -/
theorem body_obligation : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  exact sound_body m ρ c

/-! ## The launch -/

theorem ownSemFacts : Pipeline.OwnSemFacts cfg0.spec osem := by decide

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [work_eq]
  iintro ⟨Hs, -, Hr⟩
  isplitl [Hs]; · iexact Hs
  iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq, by_cell]
  unfold Φ₁
  rw [work_eq]
  iintro ⟨Hr, Hz, HzB⟩
  isplitl [HzB]; · iexact HzB
  isplitl [Hz]; · iexact Hz
  iexact Hr

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array after the run. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every execution from any memory with zero counters ends with these arrays and zero counters. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_a : finalA m ρ c (0 : Fin 3) = m ((c : Thread nD τ).loc main_arg0) := (dats (F := F) m ρ 0 c).arrAt_in (0 : Fin 3) rfl _
theorem final_b : finalA m ρ c (1 : Fin 3) = m ((c : Thread nD τ).loc main_arg1) := (dats (F := F) m ρ 0 c).arrAt_in (1 : Fin 3) rfl _

end Cert.Ring

end

end
-- ==== Proof.Result.lean ====
/-
# The arrays after a run

Every window of the kernel is one block that covers its array, so a staged block IS the array and the array written
back IS the result a device worked out. With the run of the launch this gives, for any float values: every execution
ends with the result array of each device at `outAt`, the two argument arrays unchanged and every counter at zero.
-/
module

public import proofs.«01_k».proof.Proof.Ends
public import proofs.«01_k».proof.Proof.Launch

@[expose] public section

set_option maxRecDepth 65536

noncomputable section

namespace Cert.Ring

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg) (c : Dev nD)

/-- The one block of a window over its array: entry `i` of the block is entry `i` of the array. -/
theorem blk_a (f : Buf (Elt F) ((c : Thread nD τ).loc main_arg0)) : (win0_0.blk (0 : Fin 1)).view.read (Elt F) f = f :=
  funext fun i => congrArg f (funext fun a => Fin.ext ((Rect.emb_apply _ _ _).trans (by fin_cases a <;> simp <;> exact Or.inl rfl)))
theorem blk_b (f : Buf (Elt F) ((c : Thread nD τ).loc main_arg1)) : (win0_1.blk (0 : Fin 1)).view.read (Elt F) f = f :=
  funext fun i => congrArg f (funext fun a => Fin.ext ((Rect.emb_apply _ _ _).trans (by fin_cases a <;> simp <;> exact Or.inl rfl)))
theorem blk_out (f : Buf (Elt F) ((c : Thread nD τ).loc main_v1)) : (win0_2.blk (0 : Fin 1)).view.read (Elt F) f = f :=
  funext fun i => congrArg f (funext fun a => Fin.ext ((Rect.emb_apply _ _ _).trans (by fin_cases a <;> simp <;> exact Or.inl rfl)))

theorem aStg_eq : aStg m c = m ((c : Thread nD τ).loc main_arg0) := blk_a c _
theorem bStg_eq : bStg m c = m ((c : Thread nD τ).loc main_arg1) := blk_b c _

/-- The result array of a device is what it worked out. -/
theorem final_out : finalA m ρ c (2 : Fin 3) = outAt m c := by
  have h : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (blk_out c _).symm.trans h

/-- Every execution ends with the results worked out, the arguments unchanged and every counter at zero. -/
theorem run_values : θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨(h.1 c (2 : Fin 3)).trans (final_out m ρ c),
    (h.1 c (0 : Fin 3)).trans (final_a m ρ c), (h.1 c (1 : Fin 3)).trans (final_b m ρ c)⟩, h.2⟩) (run_arrays m ρ)

end Cert.Ring

end

end
-- ==== Proof.OneText.lean ====
/-
# The kernel and its idealization are one program

No operation is replaced, so the two programs are the same text: the same parts, the same body, the same table of
bodies. A fact about every run of the one, at any float values, is a fact about every run of the other.
-/
module

public import proofs.«01_k».proof.Defs
public import proofs.«01_k».proof.Proof.Gen.Kernel
public import proofs.«01_k».proof.Proof.Gen.KernelIdeal

@[expose] public section

set_option maxRecDepth 65536

noncomputable section

namespace Cert.Ring

open Idealize.ShloMosaic Idealize.SL.Sem

variable {F : FTy → Type} [FloatOps F]

theorem same_body : Cert.KernelIdeal.cc0_body (F := F) = Cert.Kernel.cc0_body (F := F) := rfl

theorem same_bodies : Cert.KernelIdeal.defs₀ (F := F) = Cert.Kernel.defs₀ (F := F) := by
  unfold Cert.KernelIdeal.defs₀ Cert.Kernel.defs₀
  refine congrArg Defs.onTc (funext fun l => funext fun a => ?_)
  match l, a with
  | 0, (t, s) =>
    show Cert.KernelIdeal.cc0_body (F := F) _ _ _ _ _ _ _ _ _ _ _ _ _ _ _ _ _ _ _ _ _ _ = _
    rw [same_body]

theorem same_defs : Cert.KernelIdeal.defs (F := F) = Cert.Kernel.defs (F := F) :=
  congrArg (Pipeline.defs Cert.Kernel.pcfgs) same_bodies

end Cert.Ring

end

end
-- ==== Proof.Product.lean ====
/-
# What a piece of a device's product holds, at exact values

At the ideal values a change of float format changes nothing and a matrix product is the sum of products. Entry
`(r, l)` of device `c`'s product is then `part m c (r, l)`, the sum over the 512 columns of its block of `A`, and
each 512 × 128 piece of the product holds the entries under it.
-/
module

public import proofs.«01_k».proof.Proof.Result
public import Idealize.ShloMosaic.Lib.MatmulPlain
public import Idealize.ShloMosaic.Lib.IdealHost

@[expose] public section

set_option maxRecDepth 65536

noncomputable section

namespace Cert.Ring

open Cert.KernelIdeal Cert.KernelIdeal.Gen

open Idealize.ShloMosaic
open Idealize.ShloMosaic.TcCoe
open Idealize.SL.Sem
open Idealize.ShloMosaic.ValueIdx

variable (m : (ℓ : Loc nD τ sig) → Buf (Elt Ideal) ℓ) (c : Dev nD)

/-- A device's block of `A` and of `B`. -/
def argA : FVec Ideal S1024x512 .f32 := m ((c : Thread nD τ).loc main_arg0)
def argB : FVec Ideal S512x1024 .f32 := m ((c : Thread nD τ).loc main_arg1)

/-- Entry `(r, l)` of the product of a device's two blocks. -/
def part (r l : Fin 1024) : EReal := ∑ k : Fin 512, argA m c (ix2 r k) * argB m c (ix2 k l)

set_option backward.proofsInPublic true in
/-- Row `r` of half `h`, and column `l` of block `b`. -/
def rowAt (h : Fin 2) (r : Fin 512) : Fin 1024 := ⟨512 * h.val + r.val, by omega⟩
set_option backward.proofsInPublic true in
def colAt (b : Fin 8) (l : Fin 128) : Fin 1024 := ⟨128 * b.val + l.val, by omega⟩

theorem aRows_apply (h : Fin 2) (r k : Fin 512) : aRows m c h (ix2 r k) = argA m c (ix2 (rowAt h r) k) := by
  unfold aRows argA
  rw [aStg_eq]
  refine congrArg (m ((c : Thread nD τ).loc main_arg0)) (funext fun a => Fin.ext ?_)
  refine (Rect.emb_apply _ _ _).trans ?_
  fin_cases a
  · show 512 * h.val + 1 * r.val = 512 * h.val + r.val; omega
  · show 0 + 1 * k.val = k.val; omega

theorem bbv_apply (k : Fin 512) (l : Fin 1024) : bbv m c (ix2 k l) = argB m c (ix2 k l) := by
  unfold bbv k0_pay1 argB
  rw [bStg_eq, shapeCast_self, shapeCast_self]
  rfl

theorem zrow_apply (h : Fin 2) (r : Fin 512) (l : Fin 1024) : zrow m c h (ix2 r l) = part m c (rowAt h r) l := by
  unfold zrow k0_pay2 part
  simp only [shapeCast_self]
  refine (Ideal.matmul_plain_apply (φ₁ := .bf16) (φ₂ := .bf16) (M := 512) (K := 512) (N := 1024) none (aRows m c h) (bbv m c) (constant S512x1024 .f32 0x00000000#32) r l).trans ?_
  rw [show (constant S512x1024 .f32 0x00000000#32 : FVec Ideal S512x1024 .f32) (ix2 r l) = 0 from Ideal.ofBits_zero_f32, zero_add]
  exact Finset.sum_congr rfl fun k _ => by rw [aRows_apply, bbv_apply]

/-- An element under two rectangles of an array reads the same through both. -/
theorem read_rep_at {F : FTy → Type} [FloatOps F] {s : Shape} {e : EltTy} (M : Memref sig .tc .vmem s e) (r r' : Rect s) {hr hr'} (w : r'.shape.Idx → Elt F e)
    (y : r.shape.Idx) (x : r'.shape.Idx) (h : r.emb y = r'.emb x) :
    (M.slice r hr).view.read (Elt F) ((M.slice r' hr').view.rep w) y = w x :=
  (congrArg (M.view.read (Elt F) ((M.slice r' hr').view.rep w)) h).trans (congrFun (View.read_rep (M.slice r' hr').view w) x)

theorem tile_in_row (h : Fin 2) (b : Fin 8) (r : Fin 512) (l : Fin 128) :
    (tileR (nb := 8) h b).emb (ix2 r l) = (Rect.unit (s := S1024x1024) ![512 * h.val, 0] S512x1024.size (row_inb h)).emb (ix2 r (colAt b l)) := by
  funext a
  apply Fin.ext
  rw [Rect.emb_apply, Rect.emb_apply]
  fin_cases a
  · show 512 * h.val + 1 * r.val = 512 * h.val + 1 * r.val; rfl
  · show 128 * b.val + 1 * l.val = 0 + 1 * (128 * b.val + l.val); omega

/-- Piece `(h, b)` of a device's product. -/
theorem zt_apply (h : Fin 2) (b : Fin 8) (r : Fin 512) (l : Fin 128) : zt m c h b (ix2 r l) = part m c (rowAt h r) (colAt b l) := by
  unfold zt
  exact (read_rep_at (hr := fun _ => rfl) (hr' := fun _ => rfl) zM (tileR (nb := 8) h b) (Rect.unit (s := S1024x1024) ![512 * h.val, 0] S512x1024.size (row_inb h)) (zrow m c h)
    (ix2 r l) (ix2 r (colAt b l)) (tile_in_row h b r l)).trans (zrow_apply m c h r (colAt b l))

end Cert.Ring

end

end
-- ==== Proof.Sums.lean ====
/-
# The sums of the three steps, at exact values

A device's finished columns are `silu` of the sum of the four devices' products: the pairwise sums of the first two
steps, on whichever device they are made, are the four summands in some order. So every tile of the result is `silu`
of that sum, whether the device worked it out or was sent it.
-/
module

public import proofs.«01_k».proof.Proof.Facts
public import proofs.«01_k».proof.Proof.Product

@[expose] public section

set_option maxRecDepth 65536

noncomputable section

namespace Cert.Ring

open Cert.KernelIdeal Cert.KernelIdeal.Gen

open Idealize.ShloMosaic
open Idealize.ShloMosaic.TcCoe
open Idealize.SL.Sem
open Idealize.ShloMosaic.ValueIdx

variable (m : (ℓ : Loc nD τ sig) → Buf (Elt Ideal) ℓ) (c : Dev nD)

/-- `x / (1 + exp (-x))`. -/
def silu (x : EReal) : EReal := Ideal.div x (1 + Ideal.exp (-x))

/-- The sum over the mesh, in the order of a device's neighbours. -/
theorem mesh_sum (f : Dev nD → EReal) (c : Dev nD) : ∑ d, f d = (f c + f (p1 c)) + (f (p2 c) + f (dg c)) := by
  have e : ∑ d, f d = f 0 + f 1 + f 2 + f 3 := Fin.sum_univ_four f
  rw [e]
  match c with
  | 0 => show _ = (f 0 + f 1) + (f 3 + f 2); ac_rfl
  | 1 => show _ = (f 1 + f 0) + (f 2 + f 3); ac_rfl
  | 2 => show _ = (f 2 + f 3) + (f 1 + f 0); ac_rfl
  | 3 => show _ = (f 3 + f 2) + (f 0 + f 1); ac_rfl

theorem dg_dg (c : Dev nD) : dg (dg c) = c := by revert c; decide

theorem dn_up (v : Vec Ideal S512x128 .bf16) : shapeCast S512x128 (up v) shapeCasts_S1x512x128_S512x128 = v :=
  shapeCast_shapeCast _ _ _

/-- The kernel's last operations on a sum. -/
theorem pay13_apply (z : FVec Ideal S512x128 .f32) (y : S512x128.Idx) : k0_pay13 z y = silu (z y) := by
  show Ideal.div (z y) (Ideal.ofBits .f32 0x3F800000#32 + Ideal.exp (Ideal.ofBits .f32 0x00000000#32 - (z y : EReal))) = _
  rw [Ideal.ofBits_zero_f32, Ideal.ofBits_one_f32, zero_sub]
  rfl

theorem pay14_apply (z : FVec Ideal S512x128 .f32) (y : S512x128.Idx) : k0_pay14 z y = silu (z y) := by
  unfold k0_pay14
  rw [shapeCast_self]
  exact pay13_apply z y

/-- A sum of two pieces, and of three. -/
theorem pay4_apply (a u : Vec Ideal S512x128 .bf16) (y : S512x128.Idx) : dn (k0_pay4 a (up u)) y = (a y + u y : EReal) := by
  unfold k0_pay4 dn
  rw [shapeCast_shapeCast, dn_up]
  rfl

theorem pay12_apply (a u v : Vec Ideal S512x128 .bf16) (y : S512x128.Idx) : k0_pay12 a (up u) (up v) y = (a y + u y + v y : EReal) := by
  unfold k0_pay12
  rw [dn_up, dn_up]
  rfl

theorem pay22_apply (v : Vec Ideal S512x128 .bf16) (y : S512x128.Idx) : k0_pay22 (up v) y = (v y : EReal) := by
  unfold k0_pay22
  rw [dn_up]
  rfl

/-- The sum a device finishes, for the first of its two column blocks, -/
theorem sum_a (h : Fin 2) (r : Fin 512) (l : Fin 128) :
    k0_pay12 (zt m c h (qa c)) (up (zt m (p1 c) h (qa (p1 (p1 c))))) (up (s4 m (p2 c) h)) (ix2 r l)
      = ∑ d, part m d (rowAt h r) (colAt (qa c) l) := by
  rw [pay12_apply, s4, pay4_apply, mesh_sum (fun d => part m d (rowAt h r) (colAt (qa c) l)) c]
  simp only [zt_apply, p1_p1, p2_p2, dg_dg, p1_p2]

/-- and for the second. -/
theorem sum_b (h : Fin 2) (r : Fin 512) (l : Fin 128) :
    k0_pay12 (zt m c h (qb c)) (up (zt m (p2 c) h (qb (p2 (p2 c))))) (up (s5 m (p1 c) h)) (ix2 r l)
      = ∑ d, part m d (rowAt h r) (colAt (qb c) l) := by
  rw [pay12_apply, s5, pay4_apply, mesh_sum (fun d => part m d (rowAt h r) (colAt (qb c) l)) c]
  simp only [zt_apply, p1_p1, p2_p2, dg_dg, p2_p1]
  exact add_add_add_comm (G := EReal) _ _ _ _

/-- The block of a device's two that `x` names. -/
theorem block_eq (b : Fin 8) : (bSub b = 0 ∧ b = qa (bDev b)) ∨ (bSub b = 1 ∧ b = qb (bDev b)) := by revert b; decide

/-- A device's finished columns, long and short. -/
theorem finished (b : Fin 8) (h : Fin 2) (r : Fin 512) (l : Fin 128) :
    sF m (bSub b) (bDev b) h (ix2 r l) = silu (∑ d, part m d (rowAt h r) (colAt b l))
    ∧ sB m (bSub b) (bDev b) h (ix2 r l) = silu (∑ d, part m d (rowAt h r) (colAt b l)) := by
  rcases block_eq b with ⟨e, hb⟩ | ⟨e, hb⟩
  · rw [e, show colAt b l = colAt (qa (bDev b)) l from congrArg (colAt · l) hb, ← sum_a m (bDev b) h r l]
    exact ⟨pay13_apply _ _, pay14_apply _ _⟩
  · rw [e, show colAt b l = colAt (qb (bDev b)) l from congrArg (colAt · l) hb, ← sum_b m (bDev b) h r l]
    exact ⟨pay13_apply _ _, pay14_apply _ _⟩

/-- Every tile of every device's result. -/
theorem ov_apply (h : Fin 2) (b : Fin 8) (r : Fin 512) (l : Fin 128) :
    ov m c h b (ix2 r l) = silu (∑ d, part m d (rowAt h r) (colAt b l)) := by
  unfold ov
  split
  · rename_i hc
    subst hc
    exact (finished m b h r l).1
  · rw [pay22_apply]
    exact (finished m b h r l).2

/-- Every entry of every device's result. -/
theorem outAt_apply (r l : Fin 1024) : outAt m c (ix2 r l) = silu (∑ d, part m d r l) := by
  have hr : rowAt (half (ix2 r l)) ⟨r.val % 512, Nat.mod_lt _ (by decide)⟩ = r :=
    Fin.ext (Nat.div_add_mod r.val 512)
  have hl : colAt (col (ix2 r l)) ⟨l.val % 128, Nat.mod_lt _ (by decide)⟩ = l :=
    Fin.ext (Nat.div_add_mod l.val 128)
  have e : inTile (ix2 r l) = ix2 (⟨r.val % 512, Nat.mod_lt _ (by decide)⟩ : Fin 512) (⟨l.val % 128, Nat.mod_lt _ (by decide)⟩ : Fin 128) :=
    funext fun a => by fin_cases a <;> rfl
  unfold outAt
  rw [e, ov_apply, hr, hl]

end Cert.Ring

end

end
-- ==== Proof.Reference.lean ====
/-
# What the reference computes, at exact values

Entry `(r, l)` of the reference's result is `silu` of the sum over all 2048 columns of `A`. The columns fall into
four runs of 512, one per device, so that sum is the sum of the four devices' products.
-/
module

public import proofs.«01_k».proof.Proof.Sums
public import proofs.«01_k».proof.Proof.Gen.ReferenceIdeal.Run
public import Idealize.ShloMosaic.Lib.StackMember
public import Idealize.ShloMosaic.Lib.Layout

@[expose] public section

set_option maxRecDepth 65536

noncomputable section

namespace Cert.Ring

open Idealize.ShloMosaic
open Idealize.ShloMosaic.TcCoe
open Idealize.SL.Sem
open Idealize.ShloMosaic.ValueIdx

abbrev WholeA : Shape := ⟨2, ![1024, 2048]⟩
abbrev WholeB : Shape := ⟨2, ![2048, 1024]⟩

variable (A : FVec Ideal WholeA .f32) (B : FVec Ideal WholeB .f32)

/-- The reference's result as its operations compute it. -/
def refOut : FVec Ideal ⟨2, ![1024, 1024]⟩ .f32 :=
  Host.divf (Host.dotGeneral Cert.ReferenceIdeal.dot_S1024x2048_S2048x1024_S1024x1024_1_0_0_1_n_n none A B)
    (addf (broadcastInDim Cert.ReferenceIdeal.S1024x1024 ![] Cert.ReferenceIdeal.Gen.bcast_S_S1024x1024 (constant Cert.ReferenceIdeal.S_ .f32 0x3F800000#32))
      (Host.exp (Host.negf (Host.dotGeneral Cert.ReferenceIdeal.dot_S1024x2048_S2048x1024_S1024x1024_1_0_0_1_n_n none A B))))

theorem dot_apply (r l : Fin 1024) :
    Host.dotGeneral Cert.ReferenceIdeal.dot_S1024x2048_S2048x1024_S1024x1024_1_0_0_1_n_n none A B (ix2 r l)
      = ∑ k : Fin 2048, (A (ix2 r k) * B (ix2 k l) : EReal) :=
  StackMember.dotGeneral_plain_apply (m := 1024) (k := 2048) (n := 1024) none A B r l

theorem refOut_apply (r l : Fin 1024) : refOut A B (ix2 r l) = silu (∑ k : Fin 2048, (A (ix2 r k) * B (ix2 k l) : EReal)) := by
  rw [← dot_apply]
  show Ideal.div _ (Ideal.ofBits .f32 0x3F800000#32 + Ideal.exp (-_)) = _
  rw [Ideal.ofBits_one_f32]
  rfl

set_option backward.proofsInPublic true in
/-- Column `k` of device `d`'s block, in the whole array. -/
def wholeCol (d : Fin 4) (k : Fin 512) : Fin 2048 := ⟨d.val * 512 + k.val, by omega⟩

/-- A sum over all columns is a sum over the devices of sums over their columns. -/
theorem sum_cols (f : Fin 2048 → EReal) : ∑ k, f k = ∑ d : Fin 4, ∑ k : Fin 512, f (wholeCol d k) := by
  rw [← Fintype.sum_prod_type' (fun (d : Fin 4) (k : Fin 512) => f (wholeCol d k))]
  refine (Fintype.sum_equiv (finProdFinEquiv (m := 4) (n := 512)) _ _ fun p => congrArg f (Fin.ext ?_)).symm
  show p.1.val * 512 + p.2.val = p.2.val + 512 * p.1.val
  omega

variable (m : (ℓ : Loc Cert.KernelIdeal.nD Cert.KernelIdeal.τ Cert.KernelIdeal.sig) → Buf (Elt Ideal) ℓ)

/-- When the devices hold their blocks of the two whole arrays, every device's result is the reference's. -/
theorem out_eq_ref (hA : ∀ c, argA m c = Layout.block ⟨2, ![1024, 512]⟩ WholeA 1 4 c A)
    (hB : ∀ c, argB m c = Layout.block ⟨2, ![512, 1024]⟩ WholeB 0 4 c B) (c : Dev Cert.KernelIdeal.nD) : outAt m c = refOut A B := by
  funext i
  rw [eq_ix2 i]
  refine (outAt_apply m c (i 0) (i 1)).trans (Eq.trans (congrArg silu ?_) (refOut_apply A B (i 0) (i 1)).symm)
  rw [sum_cols]
  refine Finset.sum_congr rfl fun d _ => Finset.sum_congr rfl fun k _ => ?_
  rw [hA, hB, Layout.block_apply, Layout.block_apply]
  congr 1
  · exact congrArg A (funext fun a => by fin_cases a <;> rfl)
  · exact congrArg B (funext fun a => by fin_cases a <;> rfl)

end Cert.Ring

end

end
-- ==== Proof.lean ====
/-
# The certificate

The five claims, from the run of the kernel (Result), the value of its result (Sums) and the reference's (Reference).
The kernel and its idealization are one program text over any float values (OneText), so the one run serves both: at the bits
for the frame of the kernel, at the exact values for the rest.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.OneText
public import proofs.«01_k».proof.Proof.Reference
public import Idealize.ShloMosaic.Adequacy
public import Idealize.ShloMosaic.Init

@[expose] public section

noncomputable section

namespace Cert.Proof

open Idealize.ShloMosaic Idealize.SL.Sem

/-- The arguments unchanged and the counters at zero, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Ring.run_values m ρ)

theorem frame_kernel : Cert.quiescent_Kernel := fun m ρ _ => by
  have h := frame_any (F := Bits) m ρ
  rw [Cert.Ring.same_defs] at h
  exact h

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values : Cert.algebraic_KernelIdeal_ReferenceIdeal := fun m ρ m' ρ' _ hm =>
  ⟨Cert.Ring.refOut _ _,
    (θ_run Cert.KernelIdeal.defs _ _).mono
      (fun _ h c => ⟨(h.1 c).1.trans (Cert.Ring.out_eq_ref _ _ m (fun c => (hm c).1) (fun c => (hm c).2) c), (h.1 c).2⟩)
      (Cert.Ring.run_values (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, values⟩

end Cert.Proof

end
